-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_inputs_ok : Cert.Pre_inputs_ok.Facts) (hPre_inputs_finite : Cert.Pre_inputs_finite.Facts),
    quiescent_Kernel (hKernel := hKernel) (hPre_inputs_ok := hPre_inputs_ok)
    ∧ quiescent_KernelIdeal (hKernelIdeal := hKernelIdeal) (hPre_inputs_ok := hPre_inputs_ok)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S68x2 : Shape := ⟨2, ![68, 2]⟩
abbrev S2x544 : Shape := ⟨2, ![2, 544]⟩
abbrev S1x68x68 : Shape := ⟨3, ![1, 68, 68]⟩
abbrev S1x68x8 : Shape := ⟨3, ![1, 68, 8]⟩
abbrev S128x2 : Shape := ⟨2, ![128, 2]⟩
abbrev S128 : Shape := ⟨1, ![128]⟩
abbrev S128x128 : Shape := ⟨2, ![128, 128]⟩
abbrev S_ : Shape := ⟨0, ![]⟩

class Facts : Prop where
  bcast_S_S2x544 : S_.BroadcastsInDim S2x544 (![] : Fin 0 → Fin S2x544.rank)
  reducesTo_S2x544_S_d0_1 : S2x544.ReducesTo [0, 1] S_
  h_S_ : 0 < S_.numel
  bcast_S_S68x2 : S_.BroadcastsInDim S68x2 (![] : Fin 0 → Fin S68x2.rank)
  reducesTo_S68x2_S_d0_1 : S68x2.ReducesTo [0, 1] S_
  bcast_S_S128x2 : S_.BroadcastsInDim S128x2 (![] : Fin 0 → Fin S128x2.rank)
  reducesTo_S128x2_S_d0_1 : S128x2.ReducesTo [0, 1] S_

variable [Facts]

def fn {F : FTy → Type} [FloatOps F] (main_arg0 : FVec F S68x2 .f32) (main_arg1 : IVec S2x544 32) (main_arg2 : FVec F S1x68x68 .f32) (main_arg3 : FVec F S1x68x8 .f32) (main_arg4 : FVec F S128x2 .f32) (main_arg5 : FVec F S128 .f32) (main_arg6 : FVec F S128x2 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_c : IVec S_ 32 := constantI S_ 32 0#32
  let main_v0 : IVec S2x544 32 := broadcastInDim S2x544 ![] bcast_S_S2x544 main_c
  let main_v1 : IVec S2x544 1 := cmpi .sge main_arg1 main_v0
  let main_c_0 : IVec S_ 32 := constantI S_ 32 68#32
  let main_v2 : IVec S2x544 32 := broadcastInDim S2x544 ![] bcast_S_S2x544 main_c_0
  let main_v3 : IVec S2x544 1 := cmpi .slt main_arg1 main_v2
  let main_v4 : IVec S2x544 1 := andi main_v1 main_v3
  let main_c_1 : IVec S_ 1 := constantI S_ 1 1#1
  let main_v5 : IVec S_ 1 := (fun x v => Host.reduce IntOp.andi x v reducesTo_S2x544_S_d0_1 h_S_) main_v4 main_c_1
  let main_v6 : FVec F S68x2 .f32 := Host.absf main_arg0
  let main_cst : FVec F S_ .f32 := constant S_ .f32 0x7F800000#32
  let main_v7 : FVec F S68x2 .f32 := broadcastInDim S68x2 ![] bcast_S_S68x2 main_cst
  let main_v8 : IVec S68x2 1 := cmpf .olt main_v6 main_v7
  let main_c_2 : IVec S_ 1 := constantI S_ 1 1#1
  let main_v9 : IVec S_ 1 := (fun x v => Host.reduce IntOp.andi x v reducesTo_S68x2_S_d0_1 h_S_) main_v8 main_c_2
  let main_v10 : IVec S_ 1 := andi main_v5 main_v9
  let main_v11 : FVec F S128x2 .f32 := Host.absf main_arg4
  let main_cst_3 : FVec F S_ .f32 := constant S_ .f32 0x7F800000#32
  let main_v12 : FVec F S128x2 .f32 := broadcastInDim S128x2 ![] bcast_S_S128x2 main_cst_3
  let main_v13 : IVec S128x2 1 := cmpf .olt main_v11 main_v12
  let main_c_4 : IVec S_ 1 := constantI S_ 1 1#1
  let main_v14 : IVec S_ 1 := (fun x v => Host.reduce IntOp.andi x v reducesTo_S128x2_S_d0_1 h_S_) main_v13 main_c_4
  let main_v15 : IVec S_ 1 := andi main_v10 main_v14
  main_v15
-- ==== Pre_inputs_ok.lean ====
abbrev S68x2 : Shape := ⟨2, ![68, 2]⟩
abbrev S2x544 : Shape := ⟨2, ![2, 544]⟩
abbrev S1x68x68 : Shape := ⟨3, ![1, 68, 68]⟩
abbrev S1x68x8 : Shape := ⟨3, ![1, 68, 8]⟩
abbrev S128x2 : Shape := ⟨2, ![128, 2]⟩
abbrev S128 : Shape := ⟨1, ![128]⟩
abbrev S128x128 : Shape := ⟨2, ![128, 128]⟩
abbrev S_ : Shape := ⟨0, ![]⟩

class Facts : Prop where
  bcast_S_S2x544 : S_.BroadcastsInDim S2x544 (![] : Fin 0 → Fin S2x544.rank)
  reducesTo_S2x544_S_d0_1 : S2x544.ReducesTo [0, 1] S_
  h_S_ : 0 < S_.numel

variable [Facts]

def fn {F : FTy → Type} [FloatOps F] (main_arg0 : FVec F S68x2 .f32) (main_arg1 : IVec S2x544 32) (main_arg2 : FVec F S1x68x68 .f32) (main_arg3 : FVec F S1x68x8 .f32) (main_arg4 : FVec F S128x2 .f32) (main_arg5 : FVec F S128 .f32) (main_arg6 : FVec F S128x2 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_c : IVec S_ 32 := constantI S_ 32 0#32
  let main_v0 : IVec S2x544 32 := broadcastInDim S2x544 ![] bcast_S_S2x544 main_c
  let main_v1 : IVec S2x544 1 := cmpi .sge main_arg1 main_v0
  let main_c_0 : IVec S_ 32 := constantI S_ 32 68#32
  let main_v2 : IVec S2x544 32 := broadcastInDim S2x544 ![] bcast_S_S2x544 main_c_0
  let main_v3 : IVec S2x544 1 := cmpi .slt main_arg1 main_v2
  let main_v4 : IVec S2x544 1 := andi main_v1 main_v3
  let main_c_1 : IVec S_ 1 := constantI S_ 1 1#1
  let main_v5 : IVec S_ 1 := (fun x v => Host.reduce IntOp.andi x v reducesTo_S2x544_S_d0_1 h_S_) main_v4 main_c_1
  main_v5
-- ==== Kernel.lean ====
abbrev S68x2 : Shape := ⟨2, ![68, 2]⟩
abbrev S2x544 : Shape := ⟨2, ![2, 544]⟩
abbrev S1x68x68 : Shape := ⟨3, ![1, 68, 68]⟩
abbrev S1x68x8 : Shape := ⟨3, ![1, 68, 8]⟩
abbrev S128x2 : Shape := ⟨2, ![128, 2]⟩
abbrev S128 : Shape := ⟨1, ![128]⟩
abbrev S128x128 : Shape := ⟨2, ![128, 128]⟩
abbrev S4x68x68 : Shape := ⟨3, ![4, 68, 68]⟩
abbrev S68x68 : Shape := ⟨2, ![68, 68]⟩
abbrev S_ : Shape := ⟨0, ![]⟩
abbrev S16 : Shape := ⟨1, ![16]⟩
abbrev S1x16 : Shape := ⟨2, ![1, 16]⟩
abbrev S1x128x128 : Shape := ⟨3, ![1, 128, 128]⟩
abbrev S4x128x128 : Shape := ⟨3, ![4, 128, 128]⟩
abbrev S2x128 : Shape := ⟨2, ![2, 128]⟩
abbrev S1x128 : Shape := ⟨2, ![1, 128]⟩
abbrev S7x128 : Shape := ⟨2, ![7, 128]⟩
abbrev S8x128 : Shape := ⟨2, ![8, 128]⟩
abbrev S68x1 : Shape := ⟨2, ![68, 1]⟩
abbrev S68x128 : Shape := ⟨2, ![68, 128]⟩
abbrev S68x8 : Shape := ⟨2, ![68, 8]⟩
abbrev S68 : Shape := ⟨1, ![68]⟩
abbrev S1x8x128 : Shape := ⟨3, ![1, 8, 128]⟩

abbrev nBuf : Table → Nat
  | .hbm => 33
  | .local .tc .vmem => 6
  | .local .scVector .vmem => 2
  | _ => 0

abbrev bufTy : (tb : Table) → Fin (nBuf tb) → BufTy
  | .hbm, ⟨0, _⟩ => ⟨S68x2, .f32⟩
  | .hbm, ⟨1, _⟩ => ⟨S2x544, .i32⟩
  | .hbm, ⟨2, _⟩ => ⟨S1x68x68, .f32⟩
  | .hbm, ⟨3, _⟩ => ⟨S1x68x8, .f32⟩
  | .hbm, ⟨4, _⟩ => ⟨S128x2, .f32⟩
  | .hbm, ⟨5, _⟩ => ⟨S128, .f32⟩
  | .hbm, ⟨6, _⟩ => ⟨S128x2, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S4x68x68, .f32⟩
  | .hbm, ⟨17, _⟩ => ⟨S1x128x128, .f32⟩
  | .hbm, ⟨18, _⟩ => ⟨S1x128x128, .f32⟩
  | .hbm, ⟨19, _⟩ => ⟨S1x128x128, .f32⟩
  | .hbm, ⟨20, _⟩ => ⟨S1x128x128, .f32⟩
  | .hbm, ⟨21, _⟩ => ⟨S4x128x128, .f32⟩
  | .hbm, ⟨22, _⟩ => ⟨S2x128, .f32⟩
  | .hbm, ⟨23, _⟩ => ⟨S2x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S7x128, .f32⟩
  | .hbm, ⟨31, _⟩ => ⟨S8x128, .f32⟩
  | .hbm, ⟨32, _⟩ => ⟨S1x8x128, .f32⟩
  | .local .tc .vmem, ⟨0, _⟩ => ⟨S4x68x68, .f32⟩
  | .local .tc .vmem, ⟨1, _⟩ => ⟨S68x2, .f32⟩
  | .local .tc .vmem, ⟨2, _⟩ => ⟨S1x68x8, .f32⟩
  | .local .tc .vmem, ⟨3, _⟩ => ⟨S4x128x128, .f32⟩
  | .local .tc .vmem, ⟨4, _⟩ => ⟨S7x128, .f32⟩
  | .local .tc .vmem, ⟨5, _⟩ => ⟨S8x128, .f32⟩
  | .local .scVector .vmem, ⟨0, _⟩ => ⟨S2x544, .i32⟩
  | .local .scVector .vmem, ⟨1, _⟩ => ⟨S68x68, .f32⟩
  | _, _ => ⟨S68x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_arg1_scv : Ref sig .scVector := ⟨.hbm, 1, rfl⟩
abbrev main_v0_scv : Ref sig .scVector := ⟨.hbm, 16, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_16 : BitVec 32 := 0#32
  let c17_i32 : BitVec 32 := 17#32
  let v41 : BitVec 32 := Scalar.addi c0_i32_16 c17_i32
  let c1_i32_17 : BitVec 32 := 1#32
  ⟨c0_i32_16, v41, c1_i32_17⟩
def k0_off1 (k0_t1 : Fin k0_t1_loop.trips) (c0_i32_26 : BitVec 32) : Fin 2 → Nat :=
  let c0_i32_16 : BitVec 32 := 0#32
  let c1_i32_17 : BitVec 32 := 1#32
  let arg7 : BitVec 32 := Scf.iv c0_i32_16 c1_i32_17 k0_t1
  let c4_i32_25 : BitVec 32 := 4#32
  let v50 : BitVec 32 := Scalar.muli arg7 c4_i32_25
  let v51 : BitVec 32 := Scalar.addi v50 c0_i32_26
  let v52 : Index := Scalar.indexCast v51
  let c0 : Index := 0#32
  ![v52.toNat, 0]
def k0_off2 (k0_t1 : Fin k0_t1_loop.trips) (c0_i32_28 : BitVec 32) : Fin 2 → Nat :=
  let c0_i32_16 : BitVec 32 := 0#32
  let c1_i32_17 : BitVec 32 := 1#32
  let arg7 : BitVec 32 := Scf.iv c0_i32_16 c1_i32_17 k0_t1
  let c4_i32_27 : BitVec 32 := 4#32
  let v54 : BitVec 32 := Scalar.muli arg7 c4_i32_27
  let v55 : BitVec 32 := Scalar.addi v54 c0_i32_28
  let v56 : Index := Scalar.indexCast v55
  let c16 : Index := 16#32
  ![v56.toNat, 16]
def k0_off3 (k0_t1 : Fin k0_t1_loop.trips) (c0_i32_30 : BitVec 32) : Fin 2 → Nat :=
  let c0_i32_16 : BitVec 32 := 0#32
  let c1_i32_17 : BitVec 32 := 1#32
  let arg7 : BitVec 32 := Scf.iv c0_i32_16 c1_i32_17 k0_t1
  let c4_i32_29 : BitVec 32 := 4#32
  let v58 : BitVec 32 := Scalar.muli arg7 c4_i32_29
  let v59 : BitVec 32 := Scalar.addi v58 c0_i32_30
  let v60 : Index := Scalar.indexCast v59
  let c32 : Index := 32#32
  ![v60.toNat, 32]
def k0_off4 (k0_t1 : Fin k0_t1_loop.trips) (c0_i32_32 : BitVec 32) : Fin 2 → Nat :=
  let c0_i32_16 : BitVec 32 := 0#32
  let c1_i32_17 : BitVec 32 := 1#32
  let arg7 : BitVec 32 := Scf.iv c0_i32_16 c1_i32_17 k0_t1
  let c4_i32_31 : BitVec 32 := 4#32
  let v62 : BitVec 32 := Scalar.muli arg7 c4_i32_31
  let v63 : BitVec 32 := Scalar.addi v62 c0_i32_32
  let v64 : Index := Scalar.indexCast v63
  let c48 : Index := 48#32
  ![v64.toNat, 48]
def k0_off5 (k0_t1 : Fin k0_t1_loop.trips) (c0_i32_34 : BitVec 32) : Fin 2 → Nat :=
  let c0_i32_16 : BitVec 32 := 0#32
  let c1_i32_17 : BitVec 32 := 1#32
  let arg7 : BitVec 32 := Scf.iv c0_i32_16 c1_i32_17 k0_t1
  let c4_i32_33 : BitVec 32 := 4#32
  let v66 : BitVec 32 := Scalar.muli arg7 c4_i32_33
  let v67 : BitVec 32 := Scalar.addi v66 c0_i32_34
  let v68 : Index := Scalar.indexCast v67
  let c52 : Index := 52#32
  ![v68.toNat, 52]
@[reducible] def k0_t2_loop (i : grid0.Coords) : Scf.Loop 32 :=
  let c0_i32_21 : BitVec 32 := 0#32
  let arg1 : BitVec 32 := BitVec.ofNat 32 (i 1).val
  let c1_i32_6 : BitVec 32 := 1#32
  let v21 : BitVec 32 := Scalar.addi arg1 c1_i32_6
  let c34_i32_7 : BitVec 32 := 34#32
  let v22 : BitVec 32 := Scalar.muli v21 c34_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let v44 : BitVec 32 := Scalar.subi v39 v20
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_23 : BitVec 32 := 1#32
  ⟨c0_i32_21, v49, c1_i32_23⟩
def k0_off6 (i : grid0.Coords) (k0_t2 : Fin (k0_t2_loop i).trips) : Fin 2 → Nat :=
  let c0_i32_25 : BitVec 32 := 0#32
  let v52 : Index := Scalar.indexCast c0_i32_25
  let arg1 : BitVec 32 := BitVec.ofNat 32 (i 1).val
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let c0_i32_21 : BitVec 32 := 0#32
  let c1_i32_23 : BitVec 32 := 1#32
  let arg7 : BitVec 32 := Scf.iv c0_i32_21 c1_i32_23 k0_t2
  let v50 : BitVec 32 := Scalar.addi v20 arg7
  let c16_i32 : BitVec 32 := 16#32
  let v51 : BitVec 32 := Scalar.muli v50 c16_i32
  let v53 : Index := Scalar.indexCast v51
  ![0, v53.toNat]
def k0_off7 (i : grid0.Coords) (k0_t2 : Fin (k0_t2_loop i).trips) : Fin 2 → Nat :=
  let c1_i32_27 : BitVec 32 := 1#32
  let v57 : Index := Scalar.indexCast c1_i32_27
  let arg1 : BitVec 32 := BitVec.ofNat 32 (i 1).val
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let c0_i32_21 : BitVec 32 := 0#32
  let c1_i32_23 : BitVec 32 := 1#32
  let arg7 : BitVec 32 := Scf.iv c0_i32_21 c1_i32_23 k0_t2
  let v55 : BitVec 32 := Scalar.addi v20 arg7
  let c16_i32_26 : BitVec 32 := 16#32
  let v56 : BitVec 32 := Scalar.muli v55 c16_i32_26
  let v58 : Index := Scalar.indexCast v56
  ![1, v58.toNat]

def k0_chk1 (i : grid0.Coords) (v54 : IVec S16 32) (v59 : IVec S16 32) : Prop :=
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a)
theorem k0_idx1_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.1 k0_h1
theorem k0_idx2_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.1 k0_h1
theorem k0_idx3_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.1 k0_h1
theorem k0_idx4_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.1 k0_h1
theorem k0_idx5_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.1 k0_h1
theorem k0_idx6_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.1 k0_h1
theorem k0_idx7_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.1 k0_h1
theorem k0_idx8_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.1 k0_h1
theorem k0_idx9_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.1 k0_h1
theorem k0_idx10_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.1 k0_h1
theorem k0_idx11_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.1 k0_h1
theorem k0_idx12_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.2.1 k0_h1
theorem k0_idx13_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.2.2.1 k0_h1
theorem k0_idx14_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.2.2.2.1 k0_h1
theorem k0_idx15_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.2.2.2.2.1 k0_h1
theorem k0_idx16_inb : ∀ (i : grid0.Coords) (v54 : IVec S16 32) (v59 : IVec S16 32) (k0_hw1 : k0_chk1 i v54 v59), ∀ (k0_h1 : k0_cond1 i = 1#1), ∀ a x, ((![v59, v54] : Fin 2 → IVec S16 32) a x).toNat < S68x68.size a := fun i v54 v59 k0_hw1 k0_h1 => k0_hw1.2.2.2.2.2.2.2.2.2.2.2.2.2.2.2 k0_h1
@[reducible] def k0_t3_loop (i : grid0.Coords) : Scf.Loop 32 :=
  let c0_i32_21 : BitVec 32 := 0#32
  let arg1 : BitVec 32 := BitVec.ofNat 32 (i 1).val
  let c1_i32_6 : BitVec 32 := 1#32
  let v21 : BitVec 32 := Scalar.addi arg1 c1_i32_6
  let c34_i32_7 : BitVec 32 := 34#32
  let v22 : BitVec 32 := Scalar.muli v21 c34_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let v44 : BitVec 32 := Scalar.subi v39 v20
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let v46 : BitVec 32 := Scalar.addi c0_i32_21 v45
  let c1_i32_24 : BitVec 32 := 1#32
  ⟨v49, v46, c1_i32_24⟩
def k0_off8 (i : grid0.Coords) (k0_t3 : Fin (k0_t3_loop i).trips) : Fin 2 → Nat :=
  let c0_i32_25 : BitVec 32 := 0#32
  let v52 : Index := Scalar.indexCast c0_i32_25
  let arg1 : BitVec 32 := BitVec.ofNat 32 (i 1).val
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let c0_i32_21 : BitVec 32 := 0#32
  let c1_i32_6 : BitVec 32 := 1#32
  let v21 : BitVec 32 := Scalar.addi arg1 c1_i32_6
  let c34_i32_7 : BitVec 32 := 34#32
  let v22 : BitVec 32 := Scalar.muli v21 c34_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let v44 : BitVec 32 := Scalar.subi v39 v20
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_24 : BitVec 32 := 1#32
  let arg7 : BitVec 32 := Scf.iv v49 c1_i32_24 k0_t3
  let v50 : BitVec 32 := Scalar.addi v20 arg7
  let c16_i32 : BitVec 32 := 16#32
  let v51 : BitVec 32 := Scalar.muli v50 c16_i32
  let v53 : Index := Scalar.indexCast v51
  ![0, v53.toNat]
def k0_off9 (i : grid0.Coords) (k0_t3 : Fin (k0_t3_loop i).trips) : Fin 2 → Nat :=
  let c1_i32_27 : BitVec 32 := 1#32
  let v57 : Index := Scalar.indexCast c1_i32_27
  let arg1 : BitVec 32 := BitVec.ofNat 32 (i 1).val
  let c34_i32 : BitVec 32 := 34#32
  let v3 : BitVec 32 := Scalar.muli arg1 c34_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c4_i32_0 : BitVec 32 := 4#32
  let c0_i32_3 : BitVec 32 := 0#32
  let v10 : BitVec 1 := Scalar.cmpi .sgt c4_i32_0 c0_i32_3
  let v11 : BitVec 32 := Scalar.extui v10
  let c0_i32_4 : BitVec 32 := 0#32
  let v12 : BitVec 1 := Scalar.cmpi .slt c4_i32_0 c0_i32_4
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_5 : BitVec 32 := 0#32
  let v17 : BitVec 1 := Scalar.cmpi .ne v16 c0_i32_5
  let v18 : BitVec 1 := Scalar.andi v15 v17
  let v4 : BitVec 32 := Scalar.divsi v3 c4_i32_0
  let c1_i32 : BitVec 32 := 1#32
  let v19 : BitVec 32 := Scalar.subi v4 c1_i32
  let v20 : BitVec 32 := Scalar.select v18 v19 v4
  let c0_i32_21 : BitVec 32 := 0#32
  let c1_i32_6 : BitVec 32 := 1#32
  let v21 : BitVec 32 := Scalar.addi arg1 c1_i32_6
  let c34_i32_7 : BitVec 32 := 34#32
  let v22 : BitVec 32 := Scalar.muli v21 c34_i32_7
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let v44 : BitVec 32 := Scalar.subi v39 v20
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_24 : BitVec 32 := 1#32
  let arg7 : BitVec 32 := Scf.iv v49 c1_i32_24 k0_t3
  let v55 : BitVec 32 := Scalar.addi v20 arg7
  let c16_i32_26 : BitVec 32 := 16#32
  let v56 : BitVec 32 := Scalar.muli v55 c16_i32_26
  let v58 : Index := Scalar.indexCast v56
  ![1, v58.toNat]

def k0_chk2 (i : grid0.Coords) (k0_t3 : Fin (k0_t3_loop i).trips) (v54 : IVec S16 32) (v59 : IVec S16 32) : Prop :=
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a) ∧
  (∀ (k0_h1 : k0_cond1 i = 1#1), ∀ a x, ((![v59, v54] : Fin 2 → IVec S16 32) a x).toNat < S68x68.size a)
theorem k0_idx17_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.1 k0_h1
theorem k0_idx18_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.1 k0_h1
theorem k0_idx19_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.1 k0_h1
theorem k0_idx20_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.1 k0_h1
theorem k0_idx21_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.1 k0_h1
theorem k0_idx22_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.1 k0_h1
theorem k0_idx23_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.1 k0_h1
theorem k0_idx24_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.1 k0_h1
theorem k0_idx25_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.1 k0_h1
theorem k0_idx26_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.1 k0_h1
theorem k0_idx27_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.1 k0_h1
theorem k0_idx28_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.2.1 k0_h1
theorem k0_idx29_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.2.2.1 k0_h1
theorem k0_idx30_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.2.2.2.1 k0_h1
theorem k0_idx31_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.2.2.2.2.1 k0_h1
theorem k0_idx32_inb : ∀ (i : grid0.Coords) (k0_t3 : Fin (k0_t3_loop i).trips) (v54 : IVec S16 32) (v59 : IVec S16 32) (k0_hw2 : k0_chk2 i k0_t3 v54 v59), ∀ (k0_h1 : k0_cond1 i = 1#1), ∀ a x, ((![v59, v54] : Fin 2 → IVec S16 32) a x).toNat < S68x68.size a := fun i k0_t3 v54 v59 k0_hw2 k0_h1 => k0_hw2.2.2.2.2.2.2.2.2.2.2.2.2.2.2.2 k0_h1
def k0_off10 (i : grid0.Coords) : Fin 3 → Nat :=
  let arg1 : BitVec 32 := BitVec.ofNat 32 (i 1).val
  let c0_i32_25_r0 : BitVec 32 := 0#32
  let c0_i32_26_r0 : BitVec 32 := 0#32
  ![arg1.toNat, 0, 0]
abbrev grid1 : Pipeline.Grid := .none

abbrev stage1_0 : Fin 1 → Memref sig .tc .vmem S4x68x68 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S68x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x68x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S7x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 4 | ⟨_ + 1, h⟩ => absurd h (Nat.not_lt.2 (Nat.le_add_left _ _))
-- ==== ReferenceIdeal.lean ====
abbrev S68x2 : Shape := ⟨2, ![68, 2]⟩
abbrev S2x544 : Shape := ⟨2, ![2, 544]⟩
abbrev S1x68x68 : Shape := ⟨3, ![1, 68, 68]⟩
abbrev S1x68x8 : Shape := ⟨3, ![1, 68, 8]⟩
abbrev S128x2 : Shape := ⟨2, ![128, 2]⟩
abbrev S128 : Shape := ⟨1, ![128]⟩
abbrev S128x128 : Shape := ⟨2, ![128, 128]⟩
abbrev S1x544 : Shape := ⟨2, ![1, 544]⟩
abbrev S544 : Shape := ⟨1, ![544]⟩
abbrev S_ : Shape := ⟨0, ![]⟩
abbrev S544x1 : Shape := ⟨2, ![544, 1]⟩
abbrev S544x2 : Shape := ⟨2, ![544, 2]⟩
abbrev S2x128 : Shape := ⟨2, ![2, 128]⟩
abbrev S68x128 : Shape := ⟨2, ![68, 128]⟩
abbrev S1x128 : Shape := ⟨2, ![1, 128]⟩
abbrev S544x128 : Shape := ⟨2, ![544, 128]⟩
abbrev S1x68x128 : Shape := ⟨3, ![1, 68, 128]⟩
abbrev S1x68 : Shape := ⟨2, ![1, 68]⟩
abbrev S1x68x1 : Shape := ⟨3, ![1, 68, 1]⟩
abbrev S1x8x128 : Shape := ⟨3, ![1, 8, 128]⟩

abbrev nBuf : Space → Nat
  | .hbm => 125
  | .vmem => 0
  | .smem => 0
  | _ => 0

abbrev bufTy : (tb : Table) → Fin (tcTables nBuf tb) → BufTy
  | .hbm, ⟨0, _⟩ => ⟨S68x2, .f32⟩
  | .hbm, ⟨1, _⟩ => ⟨S2x544, .i32⟩
  | .hbm, ⟨2, _⟩ => ⟨S1x68x68, .f32⟩
  | .hbm, ⟨3, _⟩ => ⟨S1x68x8, .f32⟩
  | .hbm, ⟨4, _⟩ => ⟨S128x2, .f32⟩
  | .hbm, ⟨5, _⟩ => ⟨S128, .f32⟩
  | .hbm, ⟨6, _⟩ => ⟨S128x2, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x544, .i32⟩
  | .hbm, ⟨17, _⟩ => ⟨S544, .i32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2, .f32⟩
  | .hbm, ⟨27, _⟩ => ⟨S1x544, .i32⟩
  | .hbm, ⟨28, _⟩ => ⟨S544, .i32⟩
  | .hbm, ⟨29, _⟩ => ⟨S_, .f32⟩
  | .hbm, ⟨30, _⟩ => ⟨S68x2, .f32⟩
  | .hbm, ⟨31, _⟩ => ⟨S544x1, .i32⟩
  | .hbm, ⟨32, _⟩ => ⟨S68x2, .f32⟩
  | .hbm, ⟨33, _⟩ => ⟨S2x128, .f32⟩
  | .hbm, ⟨34, _⟩ => ⟨S68x128, .f32⟩
  | .hbm, ⟨35, _⟩ => ⟨S1x128, .f32⟩
  | .hbm, ⟨36, _⟩ => ⟨S68x128, .f32⟩
  | .hbm, ⟨37, _⟩ => ⟨S68x128, .f32⟩
  | .hbm, ⟨38, _⟩ => ⟨S2x128, .f32⟩
  | .hbm, ⟨39, _⟩ => ⟨S68x128, .f32⟩
  | .hbm, ⟨40, _⟩ => ⟨S68x128, .f32⟩
  | .hbm, ⟨41, _⟩ => ⟨S1x128, .f32⟩
  | .hbm, ⟨42, _⟩ => ⟨S68x128, .f32⟩
  | .hbm, ⟨43, _⟩ => ⟨S68x128, .f32⟩
  | .hbm, ⟨44, _⟩ => ⟨S_, .f32⟩
  | .hbm, ⟨45, _⟩ => ⟨S68x128, .f32⟩
  | .hbm, ⟨46, _⟩ => ⟨S68x128, .f32⟩
  | .hbm, ⟨47, _⟩ => ⟨S1x544, .i32⟩
  | .hbm, ⟨48, _⟩ => ⟨S544, .i32⟩
  | .hbm, ⟨49, _⟩ => ⟨S_, .i32⟩
  | .hbm, ⟨50, _⟩ => ⟨S544, .i32⟩
  | .hbm, ⟨51, _⟩ => ⟨S544, .i1⟩
  | .hbm, ⟨52, _⟩ => ⟨S_, .i32⟩
  | .hbm, ⟨53, _⟩ => ⟨S544, .i32⟩
  | .hbm, ⟨54, _⟩ => ⟨S544, .i32⟩
  | .hbm, ⟨55, _⟩ => ⟨S544, .i32⟩
  | .hbm, ⟨56, _⟩ => ⟨S544x1, .i32⟩
  | .hbm, ⟨57, _⟩ => ⟨S544x128, .f32⟩
  | .hbm, ⟨58, _⟩ => ⟨S1x544, .i32⟩
  | .hbm, ⟨59, _⟩ => ⟨S544, .i32⟩
  | .hbm, ⟨60, _⟩ => ⟨S_, .f32⟩
  | .hbm, ⟨61, _⟩ => ⟨S68x128, .f32⟩
  | .hbm, ⟨62, _⟩ => ⟨S544x1, .i32⟩
  | .hbm, ⟨63, _⟩ => ⟨S68x128, .f32⟩
  | .hbm, ⟨64, _⟩ => ⟨S128x128, .f32⟩
  | .hbm, ⟨65, _⟩ => ⟨S68x128, .f32⟩
  | .hbm, ⟨66, _⟩ => ⟨S1x128, .f32⟩
  | .hbm, ⟨67, _⟩ => ⟨S68x128, .f32⟩
  | .hbm, ⟨68, _⟩ => ⟨S68x128, .f32⟩
  | .hbm, ⟨69, _⟩ => ⟨S128x128, .f32⟩
  | .hbm, ⟨70, _⟩ => ⟨S68x128, .f32⟩
  | .hbm, ⟨71, _⟩ => ⟨S68x128, .f32⟩
  | .hbm, ⟨72, _⟩ => ⟨S1x128, .f32⟩
  | .hbm, ⟨73, _⟩ => ⟨S68x128, .f32⟩
  | .hbm, ⟨74, _⟩ => ⟨S68x128, .f32⟩
  | .hbm, ⟨75, _⟩ => ⟨S_, .f32⟩
  | .hbm, ⟨76, _⟩ => ⟨S68x128, .f32⟩
  | .hbm, ⟨77, _⟩ => ⟨S68x128, .f32⟩
  | .hbm, ⟨78, _⟩ => ⟨S1x544, .i32⟩
  | .hbm, ⟨79, _⟩ => ⟨S544, .i32⟩
  | .hbm, ⟨80, _⟩ => ⟨S_, .i32⟩
  | .hbm, ⟨81, _⟩ => ⟨S544, .i32⟩
  | .hbm, ⟨82, _⟩ => ⟨S544, .i1⟩
  | .hbm, ⟨83, _⟩ => ⟨S_, .i32⟩
  | .hbm, ⟨84, _⟩ => ⟨S544, .i32⟩
  | .hbm, ⟨85, _⟩ => ⟨S544, .i32⟩
  | .hbm, ⟨86, _⟩ => ⟨S544, .i32⟩
  | .hbm, ⟨87, _⟩ => ⟨S544x1, .i32⟩
  | .hbm, ⟨88, _⟩ => ⟨S544x128, .f32⟩
  | .hbm, ⟨89, _⟩ => ⟨S1x544, .i32⟩
  | .hbm, ⟨90, _⟩ => ⟨S544, .i32⟩
  | .hbm, ⟨91, _⟩ => ⟨S_, .f32⟩
  | .hbm, ⟨92, _⟩ => ⟨S68x128, .f32⟩
  | .hbm, ⟨93, _⟩ => ⟨S544x1, .i32⟩
  | .hbm, ⟨94, _⟩ => ⟨S68x128, .f32⟩
  | .hbm, ⟨95, _⟩ => ⟨S128x128, .f32⟩
  | .hbm, ⟨96, _⟩ => ⟨S68x128, .f32⟩
  | .hbm, ⟨97, _⟩ => ⟨S1x128, .f32⟩
  | .hbm, ⟨98, _⟩ => ⟨S68x128, .f32⟩
  | .hbm, ⟨99, _⟩ => ⟨S68x128, .f32⟩
  | .hbm, ⟨100, _⟩ => ⟨S128x128, .f32⟩
  | .hbm, ⟨101, _⟩ => ⟨S68x128, .f32⟩
  | .hbm, ⟨102, _⟩ => ⟨S68x128, .f32⟩
  | .hbm, ⟨103, _⟩ => ⟨S1x128, .f32⟩
  | .hbm, ⟨104, _⟩ => ⟨S68x128, .f32⟩
  | .hbm, ⟨105, _⟩ => ⟨S68x128, .f32⟩
  | .hbm, ⟨106, _⟩ => ⟨S_, .f32⟩
  | .hbm, ⟨107, _⟩ => ⟨S68x128, .f32⟩
  | .hbm, ⟨108, _⟩ => ⟨S68x128, .f32⟩
  | .hbm, ⟨109, _⟩ => ⟨S1x68x128, .f32⟩
  | .hbm, ⟨110, _⟩ => ⟨S_, .f32⟩
  | .hbm, ⟨111, _⟩ => ⟨S1x68, .f32⟩
  | .hbm, ⟨112, _⟩ => ⟨S_, .f32⟩
  | .hbm, ⟨113, _⟩ => ⟨S1x68, .f32⟩
  | .hbm, ⟨114, _⟩ => ⟨S1x68, .f32⟩
  | .hbm, ⟨115, _⟩ => ⟨S1x68x1, .f32⟩
  | .hbm, ⟨116, _⟩ => ⟨S1x68x8, .f32⟩
  | .hbm, ⟨117, _⟩ => ⟨S1x68x8, .f32⟩
  | .hbm, ⟨118, _⟩ => ⟨S1x68x8, .f32⟩
  | .hbm, ⟨119, _⟩ => ⟨S_, .f32⟩
  | .hbm, ⟨120, _⟩ => ⟨S1x68, .f32⟩
  | .hbm, ⟨121, _⟩ => ⟨S1x68x1, .f32⟩
  | .hbm, ⟨122, _⟩ => ⟨S1x68x8, .f32⟩
  | .hbm, ⟨123, _⟩ => ⟨S1x68x8, .f32⟩
  | .hbm, ⟨124, _⟩ => ⟨S1x8x128, .f32⟩
  | _, _ => ⟨S68x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_1 : Ref sig .tc := ⟨.hbm, 49, rfl⟩
abbrev main_v28 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_4 : Ref sig .tc := ⟨.hbm, 80, rfl⟩
abbrev main_v54 : Ref sig .tc := ⟨.hbm, 81, rfl⟩
abbrev main_v55 : Ref sig .tc := ⟨.hbm, 82, rfl⟩
abbrev main_c_5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call2_cst : Ref sig .tc := ⟨.hbm, 106, rfl⟩
abbrev main_call2_v0 : Ref sig .tc := ⟨.hbm, 107, rfl⟩
abbrev main_v77 : Ref sig .tc := ⟨.hbm, 108, rfl⟩
abbrev main_v78 : Ref sig .tc := ⟨.hbm, 109, rfl⟩
abbrev main_cst_7 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_9 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== Proof.Setup.lean ====
/-
  The device's programs as the launch sees them, and what the one SparseCore call carries.

  The call hands the SparseCore the edge list and the array of partial counts. Each of its four tiles
  reads the whole edge list (a read share of it) and owns one 68×68 slab of the partial counts. It brings
  the slab back at the counts of its own range of the edges (`tileCounts`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four distinct unscoped ones and no buffer is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The counts, at any float values -/

section Counts
variable [FloatOps F]

/-- The value every element of a tile's table starts at. -/
def zeroC : F .f32 := Scalar.ofBits .f32 0x00000000#32
/-- The value added per edge. -/
def oneC : F .f32 := Scalar.ofBits .f32 0x3F800000#32

/-- Column `e` of row `k` of the edge list. -/
def edgeIx (k : Fin 2) (e : ℕ) : S2x544.Idx := fun | 0 => k | 1 => Fin.ofNat 544 e | ⟨_ + 2, h⟩ => absurd h (Nat.not_lt.2 (Nat.le_add_left _ _))

/-- The source node of edge `e`. -/
def srcN (ei : S2x544.Idx → BitVec 32) (e : ℕ) : ℕ := (ei (edgeIx 0 e)).toNat
/-- The destination node of edge `e`. -/
def dstN (ei : S2x544.Idx → BitVec 32) (e : ℕ) : ℕ := (ei (edgeIx 1 e)).toNat

/-- A table with one more edge into row `r` from column `c`. -/
def bump (f : S68x68.Idx → F .f32) (r c : ℕ) : S68x68.Idx → F .f32 :=
  fun ix => if (ix 0).val = r ∧ (ix 1).val = c then FloatOps.idxAddf (f ix) oneC else f ix

/-- The table after the `n` edges from edge `e₀` on, counted in order from zero. -/
def countsFrom (ei : S2x544.Idx → BitVec 32) (e₀ : ℕ) : ℕ → S68x68.Idx → F .f32
  | 0 => fun _ => zeroC
  | n + 1 => bump (countsFrom ei e₀ n) (dstN ei (e₀ + n)) (srcN ei (e₀ + n))

/-- The first vector of sixteen edges that tile `s` counts. -/
def lo (s : ℕ) : ℕ := 34 * s / 4

/-- The table of tile `s`: the counts of the edges from vector `lo s` up to vector `lo (s + 1)`. -/
def tileCounts (ei : S2x544.Idx → BitVec 32) (s : ℕ) : S68x68.Idx → F .f32 :=
  countsFrom ei (16 * lo s) (16 * (lo (s + 1) - lo s))

/-- Row and column of a slab as an index of a table. -/
def rc (x : S4x68x68.Idx) : S68x68.Idx := fun | 0 => x 1 | 1 => x 2 | ⟨_ + 2, h⟩ => absurd h (Nat.not_lt.2 (Nat.le_add_left _ _))

/-- The four tables as the call leaves them, one slab a tile. -/
def parts (ei : S2x544.Idx → BitVec 32) : S4x68x68.Idx → F .f32 := fun x => tileCounts ei (x 0).val (rc x)

end Counts

/-! ## The launch memory and the buffers -/

variable (m : (ℓ : Loc nD τ sig) → Buf (Elt F) ℓ) (ρ : Dev nD → PrngReg)

/-- The edge list and the partial counts, as locations of device `d`. -/
abbrev eLoc (d : Dev nD) : Loc nD τ sig := (SparseCore.T d).loc main_arg1
abbrev oLoc (d : Dev nD) : Loc nD τ sig := (SparseCore.T d).loc main_v0

variable [FloatOps F]

abbrev eV : Memref sig .scVector .hbm S2x544 .i32 := Memref.whole main_arg1_scv
abbrev oV : Memref sig .scVector .hbm S4x68x68 .f32 := Memref.whole main_v0_scv
/-- A tile's scratch: the fetched edge list and the table of counts. -/
abbrev sE : Memref sig .scVector .vmem S2x544 .i32 := Memref.whole cc0_scratch0
abbrev sA : Memref sig .scVector .vmem S68x68 .f32 := Memref.whole cc0_scratch1

/-- What the proof asks of the launch memory: every edge names two of the 68 nodes. -/
def PreOK : Prop := ∀ (d : Dev nD) (x : S2x544.Idx), ((m (eLoc d) : S2x544.Idx → BitVec 32) x).toNat < 68

/-- The four partial tables split evenly among the four tiles. -/
theorem hdiv : 4 ∣ S4x68x68.size 0 := ⟨1, rfl⟩
abbrev slab (i : Fin 4) : Rect S4x68x68 := Rect.part (s := S4x68x68) (a₀ := 0) hdiv i
abbrev slabSet (i : Fin 4) : Finset S4x68x68.Idx := ((oV : Memref sig .scVector .hbm S4x68x68 .f32).view.slice (slab i)).set

/-- The call's tiles are numbered below four. -/
theorem nSub_zero : (K (F := F)).nSub 0 = 4 := rfl

/-! ## What the handshakes carry -/

abbrev ePts (d : Dev nD) : sProp 𝕄 := eLoc d ↦{fullShare} m (eLoc d)
abbrev oPts (d : Dev nD) (f : Buf (Elt F) (oLoc d)) : sProp 𝕄 := oLoc d ↦{fullShare} f
abbrev eTok (d : Dev nD) (i : Fin 4) : sProp 𝕄 := eLoc d ↦{shareTok fullShare 4 i} m (eLoc d)
abbrev oSlab (d : Dev nD) (i : Fin 4) (f : Buf (Elt F) (oLoc d)) : sProp 𝕄 := oLoc d ↦[slabSet i]{fullShare} f

/-- The partial counts of device `d`'s edge list. -/
abbrev partsM (d : Dev nD) : Buf (Elt F) (oLoc d) := (parts (F := F) (m (eLoc d)) : S4x68x68.Idx → F .f32)

/-- The call takes the edge list and the partial counts whole; a tile takes a read share of the edge list
    and its slab. The slabs, and so the array, come back at the counts. -/
def P : (K (F := F)).Pay (nD := nD) (Val := Elt F) (Name := ℕ) (U := UU) where
  st := fun q d _ => match q with | 0 => iprop(ePts m d ∗ oPts d (m (oLoc d)))
  dn := fun q d _ => match q with | 0 => iprop(ePts m d ∗ oPts d (partsM m d))
  go := fun q d _ i => match q with
    | 0 => iprop(eTok m d (Fin.cast nSub_zero i) ∗ oSlab d (Fin.cast nSub_zero i) (m (oLoc d)))
  td := fun q d _ i => match q with
    | 0 => iprop(eTok m d (Fin.cast nSub_zero i) ∗ oSlab d (Fin.cast nSub_zero i) (partsM m d))
  x := fun _ _ => iprop(emp)

instance P_storable : (P (F := F) m).IsStorable where
  st q d _ := match q with
    | 0 => (inferInstance : BI.Storable (upEmb : UEmb _ 𝕄) iprop(ePts m d ∗ oPts d (m (oLoc d))))
  dn q d _ := match q with
    | 0 => (inferInstance : BI.Storable (upEmb : UEmb _ 𝕄) iprop(ePts m d ∗ oPts d (partsM m d)))
  go q d _ i := match q with
    | 0 => (inferInstance : BI.Storable (upEmb : UEmb _ 𝕄)
        iprop(eTok m d (Fin.cast nSub_zero i) ∗ oSlab d (Fin.cast nSub_zero i) (m (oLoc d))))
  td q d _ i := match q with
    | 0 => (inferInstance : BI.Storable (upEmb : UEmb _ 𝕄)
        iprop(eTok m d (Fin.cast nSub_zero i) ∗ oSlab d (Fin.cast nSub_zero i) (partsM m d)))

end Cert.Proof.Run

end
-- ==== Proof.Pure.lean ====
/-
  The pure facts of a tile's run: the offsets of its loads and stores, what a scatter with one lane active
  does to the table, and the counts one vector of sixteen edges adds.
-/
module

public import proofs.«01_k».proof.Proof.Setup

@[expose] public section

noncomputable section

namespace Cert.Proof.Run

open Cert.KernelIdeal Cert.KernelIdeal.Gen
open Idealize.ShloMosaic

variable {F : FTy → Type} [FloatOps F]

/-! ## Offsets and trip counts -/

/-- Every tile of the launch passes the guard on its number. -/
theorem cond1_true : ∀ i : grid0.Coords, k0_cond1 i = 1#1 := by decide +kernel
/-- A tile's edge loop runs once for each chunk of sixteen edges of its share. -/
theorem t2_trips : ∀ i : grid0.Coords, (k0_t2_loop i).trips = lo ((i 1).val + 1) - lo (i 1).val := by decide +kernel
/-- Where a chunk of source nodes begins in the staged edge list. -/
theorem off6_eq : ∀ (i : grid0.Coords) (t : Fin (k0_t2_loop i).trips), k0_off6 i t = ![0, 16 * (lo (i 1).val + t.val)] := by decide +kernel
/-- Where a chunk of destination nodes begins in the staged edge list. -/
theorem off7_eq : ∀ (i : grid0.Coords) (t : Fin (k0_t2_loop i).trips), k0_off7 i t = ![1, 16 * (lo (i 1).val + t.val)] := by decide +kernel
/-- Where a tile's table begins among the partial tables. -/
theorem off10_eq : ∀ i : grid0.Coords, k0_off10 i = ![(i 1).val, 0, 0] := by decide +kernel
/-- The zeroing loop runs seventeen times, four rows each. -/
theorem t1_trips : k0_t1_loop.trips = 17 := by decide +kernel
/-- Where the store 1 of a zeroed row begins. -/
theorem off1_eq : ∀ (t : Fin k0_t1_loop.trips) (r : Fin 4), k0_off1 t (BitVec.ofNat 32 r.val) = ![4 * t.val + r.val, 0] := by decide +kernel
/-- Where the store 2 of a zeroed row begins. -/
theorem off2_eq : ∀ (t : Fin k0_t1_loop.trips) (r : Fin 4), k0_off2 t (BitVec.ofNat 32 r.val) = ![4 * t.val + r.val, 16] := by decide +kernel
/-- Where the store 3 of a zeroed row begins. -/
theorem off3_eq : ∀ (t : Fin k0_t1_loop.trips) (r : Fin 4), k0_off3 t (BitVec.ofNat 32 r.val) = ![4 * t.val + r.val, 32] := by decide +kernel
/-- Where the store 4 of a zeroed row begins. -/
theorem off4_eq : ∀ (t : Fin k0_t1_loop.trips) (r : Fin 4), k0_off4 t (BitVec.ofNat 32 r.val) = ![4 * t.val + r.val, 48] := by decide +kernel
/-- Where the store 5 of a zeroed row begins. -/
theorem off5_eq : ∀ (t : Fin k0_t1_loop.trips) (r : Fin 4), k0_off5 t (BitVec.ofNat 32 r.val) = ![4 * t.val + r.val, 52] := by decide +kernel

/-- The vectors of a tile end where the edges do. -/
theorem lo_le (i : grid0.Coords) (t : Fin (k0_t2_loop i).trips) : lo (i 1).val + t.val < 34 := by
  revert t; revert i; decide +kernel

/-! ## A scatter with one lane active -/

/-- A fold whose steps all keep the value but one, which occurs once, is that step. -/
theorem foldl_single {α β : Type} (step : β → α → β) (T : β → β) (k₀ : α) :
    ∀ (L : List α), L.Nodup → k₀ ∈ L → (∀ g k, k ≠ k₀ → step g k = g) → (∀ g, step g k₀ = T g) → ∀ f, L.foldl step f = T f := by
  intro L hn hm h1 h2
  have key : ∀ L : List α, k₀ ∉ L → ∀ f, L.foldl step f = f := by
    intro L
    induction L with
    | nil => intro _ f; rfl
    | cons a L ih =>
      intro h f
      rw [List.foldl_cons, h1 f a (fun e => h (e ▸ List.mem_cons_self)), ih (fun hh => h (List.mem_cons_of_mem _ hh))]
  induction L with
  | nil => exact absurd hm List.not_mem_nil
  | cons a L ih =>
    intro f
    rw [List.foldl_cons]
    by_cases ha : a = k₀
    · subst ha
      rw [h2, key L (List.nodup_cons.mp hn).1]
    · rw [h1 f a ha]
      exact ih (List.nodup_cons.mp hn).2 ((List.mem_cons.mp hm).resolve_left fun e => ha e.symm) f

/-- Lane `l` of a vector of sixteen. -/
abbrev lane (l : Fin 16) : S16.Idx := Shape.ofLane (d := ![16]) l

/-- A scatter-add of ones of which only lane `l` is active is one edge more in the table, into the row and
    from the column that lane names. -/
theorem storeIdx_lane (f : S68x68.Idx → F .f32) (rows cols : IVec S16 32) (mask : IVec S16 1)
    (h : ∀ a x, ((![rows, cols] : Fin 2 → IVec S16 32) a x).toNat < S68x68.size a) (l : Fin 16)
    (hm : ∀ k : Fin 16, mask (lane k) = 1 ↔ k = l) :
    storeIdx (F := F) (e := .f32) (s := S68x68) (d := ![16]) f ![rows, cols] k0_pay1 mask true h
      = bump f (rows (lane l)).toNat (cols (lane l)).toNat := by
  unfold storeIdx
  refine foldl_single _ (fun g => bump g (rows (lane l)).toNat (cols (lane l)).toNat) l _ (List.nodup_finRange 16) (List.mem_finRange l) ?_ ?_ f
  · intro g k hk
    exact if_neg fun e => hk ((hm k).mp e)
  · intro g
    refine (if_pos ((hm l).mpr rfl)).trans ?_
    funext ix
    have hiff : (∀ a, (ix a).val = (idxAt ![rows, cols] h (lane l) a).val)
        ↔ ((ix 0).val = (rows (lane l)).toNat ∧ (ix 1).val = (cols (lane l)).toNat) := by
      constructor
      · intro hh; exact ⟨hh 0, hh 1⟩
      · rintro ⟨h0, h1⟩ a
        match a with
        | 0 => exact h0
        | 1 => exact h1
    unfold bump
    by_cases hh : (ix 0).val = (rows (lane l)).toNat ∧ (ix 1).val = (cols (lane l)).toNat
    · have e : idxAt ![rows, cols] h (lane l) = ix := funext fun a => Fin.ext ((hiff.mpr hh a).symm)
      refine (if_pos (hiff.mpr hh)).trans ((if_pos hh).trans ?_).symm
      refine congrArg (fun j => FloatOps.idxAddf (g j) oneC) e.symm
    · exact (if_neg (fun e => hh (hiff.mp e))).trans (if_neg hh).symm

/-! ## The lane masks -/

/-- The mask of store 0 admits lane 0 alone. -/
theorem mask0 : ∀ k : Fin 16, k0_pay14 (iota .scVector S16 32 [0] iota_S16_d0_w32_scVector) (lane k) = 1 ↔ k = 0 := by decide +kernel
/-- The mask of store 1 admits lane 1 alone. -/
theorem mask1 : ∀ k : Fin 16, k0_pay15 (iota .scVector S16 32 [0] iota_S16_d0_w32_scVector) (lane k) = 1 ↔ k = 1 := by decide +kernel
/-- The mask of store 2 admits lane 2 alone. -/
theorem mask2 : ∀ k : Fin 16, k0_pay16 (iota .scVector S16 32 [0] iota_S16_d0_w32_scVector) (lane k) = 1 ↔ k = 2 := by decide +kernel
/-- The mask of store 3 admits lane 3 alone. -/
theorem mask3 : ∀ k : Fin 16, k0_pay17 (iota .scVector S16 32 [0] iota_S16_d0_w32_scVector) (lane k) = 1 ↔ k = 3 := by decide +kernel
/-- The mask of store 4 admits lane 4 alone. -/
theorem mask4 : ∀ k : Fin 16, k0_pay18 (iota .scVector S16 32 [0] iota_S16_d0_w32_scVector) (lane k) = 1 ↔ k = 4 := by decide +kernel
/-- The mask of store 5 admits lane 5 alone. -/
theorem mask5 : ∀ k : Fin 16, k0_pay19 (iota .scVector S16 32 [0] iota_S16_d0_w32_scVector) (lane k) = 1 ↔ k = 5 := by decide +kernel
/-- The mask of store 6 admits lane 6 alone. -/
theorem mask6 : ∀ k : Fin 16, k0_pay20 (iota .scVector S16 32 [0] iota_S16_d0_w32_scVector) (lane k) = 1 ↔ k = 6 := by decide +kernel
/-- The mask of store 7 admits lane 7 alone. -/
theorem mask7 : ∀ k : Fin 16, k0_pay21 (iota .scVector S16 32 [0] iota_S16_d0_w32_scVector) (lane k) = 1 ↔ k = 7 := by decide +kernel
/-- The mask of store 8 admits lane 8 alone. -/
theorem mask8 : ∀ k : Fin 16, k0_pay22 (iota .scVector S16 32 [0] iota_S16_d0_w32_scVector) (lane k) = 1 ↔ k = 8 := by decide +kernel
/-- The mask of store 9 admits lane 9 alone. -/
theorem mask9 : ∀ k : Fin 16, k0_pay23 (iota .scVector S16 32 [0] iota_S16_d0_w32_scVector) (lane k) = 1 ↔ k = 9 := by decide +kernel
/-- The mask of store 10 admits lane 10 alone. -/
theorem mask10 : ∀ k : Fin 16, k0_pay2 k0_pay24 (lane k) = 1 ↔ k = 10 := by decide +kernel
/-- The mask of store 11 admits lane 11 alone. -/
theorem mask11 : ∀ k : Fin 16, k0_pay3 (lane k) = 1 ↔ k = 11 := by decide +kernel
/-- The mask of store 12 admits lane 12 alone. -/
theorem mask12 : ∀ k : Fin 16, k0_pay4 (lane k) = 1 ↔ k = 12 := by decide +kernel
/-- The mask of store 13 admits lane 13 alone. -/
theorem mask13 : ∀ k : Fin 16, k0_pay5 (lane k) = 1 ↔ k = 13 := by decide +kernel
/-- The mask of store 14 admits lane 14 alone. -/
theorem mask14 : ∀ k : Fin 16, k0_pay6 (lane k) = 1 ↔ k = 14 := by decide +kernel
/-- The mask of store 15 admits lane 15 alone. -/
theorem mask15 : ∀ k : Fin 16, k0_pay7 (lane k) = 1 ↔ k = 15 := by decide +kernel

end Cert.Proof.Run

end
-- ==== Proof.Tile.lean ====
/-
  One tile's run: the edge list fetched, the table zeroed, the tile's edges counted, the table copied out.
-/
module

public import proofs.«01_k».proof.Proof.Pure
public import Idealize.ShloMosaic.Lib.Pipeline.Value
public import Idealize.ShloMosaic.Lib.LoopRemainder

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

abbrev cV (L : grid0.Coords) : Fin τ.nSC := (L 0).castLE hcore0
abbrev jV (L : grid0.Coords) : Fin τ.nSub := (L 1).castLE hsub0
/-- The launch has four tiles. -/
theorem bound_one : grid0.bound 1 = 4 := rfl
abbrev jL (L : grid0.Coords) : Fin 4 := Fin.cast bound_one (L 1)

/-- The slab of the partial counts as the tile slices it. -/
abbrev slabK (L : grid0.Coords) (h : k0_cond1 L = 1#1) : Rect S4x68x68 := Rect.unit (s := S4x68x68) (k0_off10 L) S1x68x68.size (k0_off10_inb L h)
abbrev oSlabK (L : grid0.Coords) (h : k0_cond1 L = 1#1) : Memref sig .scVector .hbm S68x68 .f32 :=
  ((oV : Memref sig .scVector .hbm S4x68x68 .f32).slice (slabK L h) (fun _ => rfl)).squeeze S68x68 squeezes_S1x68x68_S68x68

/-- The tile's slice of the partial tables, as the program cuts it, is its slab. -/
theorem slabK_eq (h : k0_cond1 L = 1#1) : slabK L h = slab (jL L) := by
  unfold slabK slab Rect.part Rect.block
  congr 1 <;> funext a
  · rw [off10_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of that slice are the slab's. -/
theorem set_oSlabK (h : k0_cond1 L = 1#1) : (oSlabK L h).view.set = slabSet (jL L) := by
  show (((oV : Memref sig .scVector .hbm S4x68x68 .f32).view.slice (slabK L h)).reshape S68x68 squeezes_S1x68x68_S68x68.numel_eq).set
    = ((oV : Memref sig .scVector .hbm S4x68x68 .f32).view.slice (slab (jL L))).set
  rw [View.set_reshape]
  exact slabK_eq L h ▸ rfl

/-- Holding the slice is holding the slab. -/
theorem pts_oSlabK (h : k0_cond1 L = 1#1) (f : Buf (Elt F) (oLoc d)) :
    ((oSlabK L h).view.loc (V d (cV L) (jV L)) ↦[(oSlabK L h).view.set]{fullShare} f : sProp 𝕄) = oSlab d (jL L) f := by
  rw [set_oSlabK]

/-- A share of the edge list, seen through its whole view, is that share. -/
theorem pts_eV (q : PosShare TreeShare) (f : Buf (Elt F) (eLoc d)) :
    ((eV : Memref sig .scVector .hbm S2x544 .i32).view.loc (V d (cV L) (jV L)) ↦{q} f : sProp 𝕄) = eLoc d ↦{q} f := rfl
/-- Holding the staged edge list, seen through its whole view, is holding it. -/
theorem pts_sE (f : Buf (Elt F) ((V d (cV L) (jV L)).loc cc0_scratch0)) :
    ((sE : Memref sig .scVector .vmem S2x544 .i32).view.loc (V d (cV L) (jV L)) ↦{fullShare} f : sProp 𝕄)
      = (V d (cV L) (jV L)).loc cc0_scratch0 ↦{fullShare} f := rfl
/-- Holding the tile's table, seen through its whole view, is holding it. -/
theorem pts_sA (f : Buf (Elt F) ((V d (cV L) (jV L)).loc cc0_scratch1)) :
    ((sA : Memref sig .scVector .vmem S68x68 .f32).view.loc (V d (cV L) (jV L)) ↦{fullShare} f : sProp 𝕄)
      = (V d (cV L) (jV L)).loc cc0_scratch1 ↦{fullShare} f := rfl
/-- Holding every element of the tile's table is holding it. -/
theorem pts_sA_whole (f : Buf (Elt F) ((V d (cV L) (jV L)).loc cc0_scratch1)) :
    (((sA : Memref sig .scVector .vmem S68x68 .f32).access (.whole S68x68)).loc (V d (cV L) (jV L)) ↦[((sA : Memref sig .scVector .vmem S68x68 .f32).access (.whole S68x68)).set]{fullShare} f : sProp 𝕄)
      = (sA : Memref sig .scVector .vmem S68x68 .f32).view.loc (V d (cV L) (jV L)) ↦{fullShare} f := by
  rw [show ((sA : Memref sig .scVector .vmem S68x68 .f32).access (.whole S68x68)).set = Finset.univ from Memref.set_access_whole (cc0_scratch1 : Ref sig .scVector)]

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)

/-- A tile's semaphores at zero, listed. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩)]

/-- A tile's own buffers, listed. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loops' invariants -/

/-- The table as the tile's memref addresses it. -/
abbrev accPts (f : S68x68.Idx → F .f32) : sProp 𝕄 :=
  (sA : Memref sig .scVector .vmem S68x68 .f32).view.loc (V d (cV L) (jV L)) ↦{fullShare} (f : Buf (Elt F) ((V d (cV L) (jV L)).loc cc0_scratch1))
/-- The fetched edge list as the tile's memref addresses it. -/
abbrev edgePts (f : S2x544.Idx → BitVec 32) : sProp 𝕄 :=
  (sE : Memref sig .scVector .vmem S2x544 .i32).view.loc (V d (cV L) (jV L)) ↦{fullShare} (f : Buf (Elt F) ((V d (cV L) (jV L)).loc cc0_scratch0))

/-- Before trip `t` of the zeroing loop the rows below `4 t` are zero. -/
def zeroInv (t : Nat) (_ : PUnit) : sProp 𝕄 :=
  iprop(∃ f : S68x68.Idx → F .f32, ⌜∀ ix, (ix 0).val < 4 * t → f ix = zeroC⌝ ∗ accPts (F := F) d L f)

/-- Before trip `t` of the edge loop the table holds the counts of the first `16 t` of the tile's edges. -/
def edgeInv (ei : S2x544.Idx → BitVec 32) (t : Nat) (_ : PUnit) : sProp 𝕄 :=
  iprop(edgePts (F := F) d L ei ∗ accPts (F := F) d L (countsFrom ei (16 * lo (L 1).val) (16 * t)))

/-- The zero vector one store of trip `t` writes. -/
abbrev zvec : S1x16.Idx → F .f32 := shapeCast S1x16 k0_pay36 shapeCasts_S16_S1x16

/-- The store of trip `t` into row `4 t + r` at column 0. -/
abbrev zp1 (h : k0_cond1 L = 1#1) (t : Fin k0_t1_loop.trips) (r : Fin 4) : View.Piece (Elt F) S68x68 .f32 :=
  ⟨Rect.unit (s := S68x68) (k0_off1 t (BitVec.ofNat 32 r.val)) S1x16.size (k0_off1_inb L t h r), zvec (F := F)⟩

/-- The store of trip `t` into row `4 t + r` at column 16. -/
abbrev zp2 (h : k0_cond1 L = 1#1) (t : Fin k0_t1_loop.trips) (r : Fin 4) : View.Piece (Elt F) S68x68 .f32 :=
  ⟨Rect.unit (s := S68x68) (k0_off2 t (BitVec.ofNat 32 r.val)) S1x16.size (k0_off2_inb L t h r), zvec (F := F)⟩

/-- The store of trip `t` into row `4 t + r` at column 32. -/
abbrev zp3 (h : k0_cond1 L = 1#1) (t : Fin k0_t1_loop.trips) (r : Fin 4) : View.Piece (Elt F) S68x68 .f32 :=
  ⟨Rect.unit (s := S68x68) (k0_off3 t (BitVec.ofNat 32 r.val)) S1x16.size (k0_off3_inb L t h r), zvec (F := F)⟩

/-- The store of trip `t` into row `4 t + r` at column 48. -/
abbrev zp4 (h : k0_cond1 L = 1#1) (t : Fin k0_t1_loop.trips) (r : Fin 4) : View.Piece (Elt F) S68x68 .f32 :=
  ⟨Rect.unit (s := S68x68) (k0_off4 t (BitVec.ofNat 32 r.val)) S1x16.size (k0_off4_inb L t h r), zvec (F := F)⟩

/-- The store of trip `t` into row `4 t + r` at column 52. -/
abbrev zp5 (h : k0_cond1 L = 1#1) (t : Fin k0_t1_loop.trips) (r : Fin 4) : View.Piece (Elt F) S68x68 .f32 :=
  ⟨Rect.unit (s := S68x68) (k0_off5 t (BitVec.ofNat 32 r.val)) S1x16.size (k0_off5_inb L t h r), zvec (F := F)⟩

/-- A one-row rectangle of sixteen columns holds the places of its row and columns. -/
theorem row_mem {o : Fin 2 → ℕ} (hi : ∀ a, o a + S1x16.size a ≤ S68x68.size a) {a b : ℕ} (ho : o = ![a, b])
    (y : S68x68.Idx) (h0 : (y 0).val = a) (h1 : b ≤ (y 1).val) (h2 : (y 1).val < b + 16) :
    y ∈ (Rect.unit (s := S68x68) o S1x16.size hi).set := by
  subst ho
  refine (Rect.unit (s := S68x68) _ S1x16.size hi).mem_set.mpr fun k => ?_
  match k with
  | 0 => exact ⟨0, Nat.zero_lt_one, by show _ = a + 1 * 0; omega⟩
  | 1 => exact ⟨(y 1).val - b, by show _ < 16; omega, by show _ = b + 1 * _; omega⟩

/-- Which elements the store 1 of a zeroed row covers. -/
theorem zp1_mem (h : k0_cond1 L = 1#1) (t : Fin k0_t1_loop.trips) (r : Fin 4) (y : S68x68.Idx) (h0 : (y 0).val = 4 * t.val + r.val)
    (h1 : 0 ≤ (y 1).val) (h2 : (y 1).val < 16) : y ∈ (zp1 (F := F) L h t r).1.set :=
  row_mem (k0_off1_inb L t h r) (off1_eq t r) y h0 h1 h2

/-- Which elements the store 2 of a zeroed row covers. -/
theorem zp2_mem (h : k0_cond1 L = 1#1) (t : Fin k0_t1_loop.trips) (r : Fin 4) (y : S68x68.Idx) (h0 : (y 0).val = 4 * t.val + r.val)
    (h1 : 16 ≤ (y 1).val) (h2 : (y 1).val < 32) : y ∈ (zp2 (F := F) L h t r).1.set :=
  row_mem (k0_off2_inb L t h r) (off2_eq t r) y h0 h1 h2

/-- Which elements the store 3 of a zeroed row covers. -/
theorem zp3_mem (h : k0_cond1 L = 1#1) (t : Fin k0_t1_loop.trips) (r : Fin 4) (y : S68x68.Idx) (h0 : (y 0).val = 4 * t.val + r.val)
    (h1 : 32 ≤ (y 1).val) (h2 : (y 1).val < 48) : y ∈ (zp3 (F := F) L h t r).1.set :=
  row_mem (k0_off3_inb L t h r) (off3_eq t r) y h0 h1 h2

/-- Which elements the store 4 of a zeroed row covers. -/
theorem zp4_mem (h : k0_cond1 L = 1#1) (t : Fin k0_t1_loop.trips) (r : Fin 4) (y : S68x68.Idx) (h0 : (y 0).val = 4 * t.val + r.val)
    (h1 : 48 ≤ (y 1).val) (h2 : (y 1).val < 64) : y ∈ (zp4 (F := F) L h t r).1.set :=
  row_mem (k0_off4_inb L t h r) (off4_eq t r) y h0 h1 h2

/-- Which elements the store 5 of a zeroed row covers. -/
theorem zp5_mem (h : k0_cond1 L = 1#1) (t : Fin k0_t1_loop.trips) (r : Fin 4) (y : S68x68.Idx) (h0 : (y 0).val = 4 * t.val + r.val)
    (h1 : 52 ≤ (y 1).val) (h2 : (y 1).val < 68) : y ∈ (zp5 (F := F) L h t r).1.set :=
  row_mem (k0_off5_inb L t h r) (off5_eq t r) y h0 h1 h2

/-- The twenty stores of trip `t`, the last first. -/
def zeroPieces (h : k0_cond1 L = 1#1) (t : Fin k0_t1_loop.trips) : List (View.Piece (Elt F) S68x68 .f32) :=
  [zp5 L h t 3, zp4 L h t 3, zp3 L h t 3, zp2 L h t 3, zp1 L h t 3, zp5 L h t 2, zp4 L h t 2, zp3 L h t 2, zp2 L h t 2, zp1 L h t 2, zp5 L h t 1, zp4 L h t 1, zp3 L h t 1, zp2 L h t 1, zp1 L h t 1, zp5 L h t 0, zp4 L h t 0, zp3 L h t 0, zp2 L h t 0, zp1 L h t 0]

/-- Every piece that a trip of the zeroing loop stores is zero. -/
theorem zeroPieces_zero (h : k0_cond1 L = 1#1) (t : Fin k0_t1_loop.trips) :
    ∀ p ∈ zeroPieces (F := F) L h t, ∀ x : p.1.shape.Idx, p.2 x = (fun _ => zeroC : S68x68.Idx → F .f32) (p.1.emb x) := by
  unfold zeroPieces
  simp only [List.forall_mem_cons, List.not_mem_nil, false_imp_iff, implies_true, and_true]
  exact ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl⟩

/-- The pieces that a trip stores cover its four rows. -/
theorem zeroPieces_cover (h : k0_cond1 L = 1#1) (t : Fin k0_t1_loop.trips) (r : Fin 4) (y : S68x68.Idx) (h0 : (y 0).val = 4 * t.val + r.val) :
    ∃ p ∈ zeroPieces (F := F) L h t, y ∈ p.1.set := by
  have hc : (y 1).val < 68 := (y 1).isLt
  unfold zeroPieces
  by_cases c1 : (y 1).val < 16
  · exact ⟨zp1 L h t r, by fin_cases r <;> simp, zp1_mem L h t r y h0 (by omega) (by omega)⟩
  by_cases c2 : (y 1).val < 32
  · exact ⟨zp2 L h t r, by fin_cases r <;> simp, zp2_mem L h t r y h0 (by omega) (by omega)⟩
  by_cases c3 : (y 1).val < 48
  · exact ⟨zp3 L h t r, by fin_cases r <;> simp, zp3_mem L h t r y h0 (by omega) (by omega)⟩
  by_cases c4 : (y 1).val < 64
  · exact ⟨zp4 L h t r, by fin_cases r <;> simp, zp4_mem L h t r y h0 (by omega) (by omega)⟩
  · exact ⟨zp5 L h t r, by fin_cases r <;> simp, zp5_mem L h t r y h0 (by omega) (by omega)⟩

/-- Zeros written over zeros: a place some store holds, or that was zero, is zero after the stores. -/
theorem writes_zero (ps : List (View.Piece (Elt F) S68x68 .f32))
    (hz : ∀ p ∈ ps, ∀ x : p.1.shape.Idx, p.2 x = (fun _ => zeroC : S68x68.Idx → F .f32) (p.1.emb x)) (f : S68x68.Idx → F .f32)
    (ix : S68x68.Idx) (h : f ix = zeroC ∨ ∃ p ∈ ps, ix ∈ p.1.set) :
    (sA : Memref sig .scVector .vmem S68x68 .f32).view.writes (Elt F) f ps ix = zeroC := by
  by_cases hc : ∃ p ∈ ps, ix ∈ p.1.set
  · exact View.read_writes_apply_of_pieces (sA : Memref sig .scVector .vmem S68x68 .f32).view f (fun _ => zeroC) ps hz ix hc
  · have e := View.read_writes_apply_of_forall_not_mem (sA : Memref sig .scVector .vmem S68x68 .f32).view f ix ps fun p hp hy => hc ⟨p, hp, hy⟩
    exact Eq.trans e (h.resolve_right hc)

/-- After trip `t`'s stores the rows below `4 (t + 1)` are zero if those below `4 t` were. -/
theorem zero_writes (h : k0_cond1 L = 1#1) (t : Fin k0_t1_loop.trips) (f : S68x68.Idx → F .f32)
    (hf : ∀ ix : S68x68.Idx, (ix 0).val < 4 * t.val → f ix = zeroC) (ix : S68x68.Idx) (hix : (ix 0).val < 4 * (t.val + 1)) :
    (sA : Memref sig .scVector .vmem S68x68 .f32).view.writes (Elt F) f (zeroPieces (F := F) L h t) ix = zeroC := by
  refine writes_zero _ (zeroPieces_zero L h t) f ix ?_
  by_cases hlt : (ix 0).val < 4 * t.val
  · exact .inl (hf ix hlt)
  · exact .inr (zeroPieces_cover L h t ⟨(ix 0).val - 4 * t.val, by omega⟩ ix (by simp only; omega))

/-- One trip of the zeroing loop: four more rows are zero. -/
theorem zero_trip (h : k0_cond1 L = 1#1) (t : Fin k0_t1_loop.trips) (w : DmaSems sig S_) (w' : DmaSems sig S_) (E : Set ℕ) :
    zeroInv (F := F) d L t.val ⟨⟩ ⊢ wp frame (wpE (defs₀ (F := F)) 𝒱₀ (V d (cV L) (jV L)) none) E
      (k0_t1_body L eV (Memref.isWhole_whole _) oV (Memref.isWhole_whole _)
            sE (Memref.isWhole_whole _) sA (Memref.isWhole_whole _) w w' h k0_pay36 0#32 t ⟨⟩) fun _ => zeroInv (F := F) d L (t.val + 1) ⟨⟩ := by
  unfold zeroInv
  iintro ⟨%f, %hf, Ha⟩
  sl_exec
  sl_step
  iexists ((sA : Memref sig .scVector .vmem S68x68 .f32).view.writes (Elt F) f (zeroPieces (F := F) L h t))
  isplitr
  · ipureintro; exact zero_writes L h t f hf
  · iexact Ha

/-! ## A trip of the edge loop -/

/-- The sixteen words of row `k` a trip loads, in order. -/
theorem edge_lane (ei : S2x544.Idx → BitVec 32) (k : Fin 2) (e : ℕ) (he : e + 16 ≤ 544) {o : Fin 2 → ℕ} (ho : o = ![k.val, e])
    (hi : ∀ a, o a + S1x16.size a ≤ S2x544.size a) (l : Fin 16) :
    shapeCast S16 ((sE : Memref sig .scVector .vmem S2x544 .i32).view.readAt (Elt F) (Rect.unit (s := S2x544) o S1x16.size hi).toLoadRect ei)
      shapeCasts_S1x16_S16 (lane l) = ei (edgeIx k (e + l.val)) := by
  subst ho
  refine (shapeCast_apply _ _ _ ((fun | 0 => (0 : Fin 1) | 1 => l | ⟨_ + 2, h⟩ => absurd h (Nat.not_lt.2 (Nat.le_add_left _ _))) : S1x16.Idx) ?_).trans ?_
  · revert l; decide +kernel
  · rw [View.readAt_apply]
    refine congrArg ei (funext fun a => Fin.ext ?_)
    match a with
    | 0 => show k.val + 1 * 0 = k.val; omega
    | 1 => show e + 1 * l.val = (e + l.val) % 544; have := l.isLt; rw [Nat.mod_eq_of_lt (by omega)]; omega

/-- One masked store adds the edge of its one live lane to the table. -/
theorem scatter_step (f : S68x68.Idx → F .f32) {rows cols : IVec S16 32} {mask : IVec S16 1}
    {h : ∀ a x, ((![rows, cols] : Fin 2 → IVec S16 32) a x).toNat < S68x68.size a} (l : Fin 16)
    (hm : ∀ k : Fin 16, mask (lane k) = 1 ↔ k = l) {hs} {α : Type} {Q : α → sProp 𝕄} {E : Set ℕ}
    {kk : PUnit → Prog (TpuEff nD τ sig (Elt F) Λ₀ (.scVector (cV L) (jV L))) α} :
    accPts (F := F) d L f
      ⊢ iprop((accPts (F := F) d L (bump f (rows (lane l)).toNat (cols (lane l)).toNat)
          -∗ wp frame (wpE (defs₀ (F := F)) 𝒱₀ (V d (cV L) (jV L)) none) E (kk ⟨⟩) Q)
        -∗ wp frame (wpE (defs₀ (F := F)) 𝒱₀ (V d (cV L) (jV L)) none) E
            (SparseCore.vectorStoreIdx (sA : Memref sig .scVector .vmem S68x68 .f32) ![rows, cols] k0_pay1 mask true h hs >>= kk) Q) := by
  iintro Ha Hk
  ihave Ha' := (Entails.of_eq (pts_sA_whole (F := F) d L _).symm) $$ Ha
  iapply (SparseCore.wp_vectorStoreIdx 𝒱₀ (V d (cV L) (jV L)) none E (base := (sA : Memref sig .scVector .vmem S68x68 .f32))) $$ Ha'
  iintro Ha
  iapply Hk
  ihave Ha' := (Entails.of_eq (pts_sA_whole (F := F) d L _)) $$ Ha
  have e : (((sA : Memref sig .scVector .vmem S68x68 .f32).access (.whole S68x68)).write (Elt F) f
        (storeIdx (((sA : Memref sig .scVector .vmem S68x68 .f32).access (.whole S68x68)).read (Elt F) f) ![rows, cols] k0_pay1 mask true h) Finset.univ
      : S68x68.Idx → F .f32) = bump f (rows (lane l)).toNat (cols (lane l)).toNat := by
    rw [storeIdx_lane _ _ _ _ _ l hm]
    exact (Memref.write_access_whole_univ (Elt F) (cc0_scratch1 : Ref sig .scVector) f _).trans
      (congrArg (fun g => bump g (rows (lane l)).toNat (cols (lane l)).toNat) (Memref.read_access_whole (Elt F) (cc0_scratch1 : Ref sig .scVector) f))
  rw [e]
  iexact Ha'

/-- The check of a trip passes: the words it loaded are words of the edge list. -/
theorem chk_of (ei : S2x544.Idx → BitVec 32) (hei : ∀ x, (ei x).toNat < 68) {src dst : IVec S16 32} {e : ℕ}
    (hsrc : ∀ l : Fin 16, src (lane l) = ei (edgeIx 0 (e + l.val))) (hdst : ∀ l : Fin 16, dst (lane l) = ei (edgeIx 1 (e + l.val))) :
    k0_chk1 L src dst := by
  have hx : ∀ x : S16.Idx, ∃ l : Fin 16, x = lane l := fun x => ⟨x 0, funext fun a => by
    obtain rfl : a = 0 := Subsingleton.elim _ _
    rfl⟩
  have hall : ∀ (a : Fin 2) (x : S16.Idx), ((![dst, src] : Fin 2 → IVec S16 32) a x).toNat < S68x68.size a := by
    intro a x
    obtain ⟨l, rfl⟩ := hx x
    match a with
    | 0 => exact (congrArg BitVec.toNat (hdst l)).trans_lt (hei _)
    | 1 => exact (congrArg BitVec.toNat (hsrc l)).trans_lt (hei _)
  unfold k0_chk1
  simp only [hall, implies_true, _root_.and_self]

/-- Sixteen more edges: the next sixteen cells, one after the other. -/
theorem counts_trip (ei : S2x544.Idx → BitVec 32) (e₀ t b : ℕ) (hb : b = e₀ + 16 * t) (r c : Fin 16 → ℕ)
    (hr : ∀ l : Fin 16, r l = (ei (edgeIx 1 (b + l.val))).toNat) (hc : ∀ l : Fin 16, c l = (ei (edgeIx 0 (b + l.val))).toNat)
    {f : S68x68.Idx → F .f32} (hf : f = countsFrom ei e₀ (16 * t)) :
    bump (bump (bump (bump (bump (bump (bump (bump (bump (bump (bump (bump (bump (bump (bump (bump f (r 0) (c 0)) (r 1) (c 1)) (r 2) (c 2)) (r 3) (c 3)) (r 4) (c 4)) (r 5) (c 5)) (r 6) (c 6)) (r 7) (c 7)) (r 8) (c 8)) (r 9) (c 9)) (r 10) (c 10)) (r 11) (c 11)) (r 12) (c 12)) (r 13) (c 13)) (r 14) (c 14)) (r 15) (c 15)
      = countsFrom ei e₀ (16 * (t + 1)) := by
  subst hf hb
  simp only [hr, hc, Nat.mul_add, Nat.mul_one, Nat.add_assoc]
  rfl

/-- One trip of the edge loop counts its sixteen edges, one after the other. -/
theorem edge_trip (h : k0_cond1 L = 1#1) (ei : S2x544.Idx → BitVec 32) (hei : ∀ x, (ei x).toNat < 68) (t : Fin (k0_t2_loop L).trips) (v20 : BitVec 32)
    (w : DmaSems sig S_) (w' : DmaSems sig S_) (E : Set ℕ) :
    edgeInv (F := F) d L ei t.val ⟨⟩ ⊢ wp frame (wpE (defs₀ (F := F)) 𝒱₀ (V d (cV L) (jV L)) none) E
      (k0_t2_body L eV (Memref.isWhole_whole _) oV (Memref.isWhole_whole _)
            sE (Memref.isWhole_whole _) sA (Memref.isWhole_whole _) w w' h v20 (iota .scVector S16 32 [0] iota_S16_d0_w32_scVector) t ⟨⟩)
        fun _ => edgeInv (F := F) d L ei (t.val + 1) ⟨⟩ := by
  unfold edgeInv
  iintro ⟨He, Ha⟩
  have hlo := lo_le L t
  have hsrc : ∀ l : Fin 16, _ = ei (edgeIx 0 (16 * (lo (L 1).val + t.val) + l.val)) :=
    edge_lane (F := F) ei 0 (16 * (lo (L 1).val + t.val)) (by omega) (off6_eq L t) (k0_off6_inb L t h)
  have hdst : ∀ l : Fin 16, _ = ei (edgeIx 1 (16 * (lo (L 1).val + t.val) + l.val)) :=
    edge_lane (F := F) ei 1 (16 * (lo (L 1).val + t.val)) (by omega) (off7_eq L t) (k0_off7_inb L t h)
  sl_exec
  have hck : k0_chk1 L (edge_trip.sl.v54 L h ei t) (edge_trip.sl.v59 L h ei t) := chk_of L ei hei hsrc hdst
  rw [wp_assume_of _ _ _ _ hck]
  iapply (scatter_step (F := F) d L _ 0 mask0) $$ Ha; iintro Ha
  iapply (scatter_step (F := F) d L _ 1 mask1) $$ Ha; iintro Ha
  iapply (scatter_step (F := F) d L _ 2 mask2) $$ Ha; iintro Ha
  iapply (scatter_step (F := F) d L _ 3 mask3) $$ Ha; iintro Ha
  iapply (scatter_step (F := F) d L _ 4 mask4) $$ Ha; iintro Ha
  iapply (scatter_step (F := F) d L _ 5 mask5) $$ Ha; iintro Ha
  iapply (scatter_step (F := F) d L _ 6 mask6) $$ Ha; iintro Ha
  iapply (scatter_step (F := F) d L _ 7 mask7) $$ Ha; iintro Ha
  iapply (scatter_step (F := F) d L _ 8 mask8) $$ Ha; iintro Ha
  iapply (scatter_step (F := F) d L _ 9 mask9) $$ Ha; iintro Ha
  sl_step
  iapply (scatter_step (F := F) d L _ 10 mask10) $$ Ha; iintro Ha
  iapply (scatter_step (F := F) d L _ 11 mask11) $$ Ha; iintro Ha
  iapply (scatter_step (F := F) d L _ 12 mask12) $$ Ha; iintro Ha
  iapply (scatter_step (F := F) d L _ 13 mask13) $$ Ha; iintro Ha
  iapply (scatter_step (F := F) d L _ 14 mask14) $$ Ha; iintro Ha
  iapply (scatter_step (F := F) d L _ 15 mask15) $$ Ha; iintro Ha
  sl_step
  isplitl [He]
  · iexact He
  · have hn := counts_trip (F := F) ei (16 * lo (L 1).val) t.val (16 * (lo (L 1).val + t.val)) (by omega)
      (fun l => (edge_trip.sl.v59 L h ei t (lane l)).toNat) (fun l => (edge_trip.sl.v54 L h ei t (lane l)).toNat)
      (fun l => congrArg BitVec.toNat (hdst l)) (fun l => congrArg BitVec.toNat (hsrc l)) rfl
    rw [← hn]
    iexact Ha

/-! ## The slab -/

/-- The partial counts read through the tile's slab are the tile's own counts. -/
theorem read_slab (h : k0_cond1 L = 1#1) (ei : S2x544.Idx → BitVec 32) (x : S68x68.Idx) :
    (oSlabK L h).view.read (Elt F) (parts ei) x = tileCounts ei (L 1).val x := by
  have e : (oSlabK L h).view.read (Elt F) (parts ei) x
      = shapeCast S68x68 ((oV : Memref sig .scVector .hbm S4x68x68 .f32).view.readAt (Elt F) (slabK L h).toLoadRect (parts ei)) squeezes_S1x68x68_S68x68.numel_eq x := rfl
  rw [e, shapeCast_apply _ _ _ ((fun | 0 => (0 : Fin 1) | 1 => x 0 | 2 => x 1 | ⟨_ + 3, h⟩ => absurd h (Nat.not_lt.2 (Nat.le_add_left _ _))) : S1x68x68.Idx) ?_, View.readAt_apply]
  · show tileCounts ei (k0_off10 L 0 + 1 * 0) _ = _
    rw [off10_eq]
    show tileCounts ei ((L 1).val + 1 * 0) _ = _
    rw [Nat.mul_zero, Nat.add_zero]
    refine congrArg (tileCounts ei (L 1).val) (funext fun a => Fin.ext ?_)
    match a with
    | 0 =>
      show k0_off10 L 1 + 1 * (x 0).val = (x 0).val
      rw [off10_eq]; show 0 + 1 * (x 0).val = _; omega
    | 1 =>
      show k0_off10 L 2 + 1 * (x 1).val = (x 1).val
      rw [off10_eq]; show 0 + 1 * (x 1).val = _; omega
  · rw [Shape.rowMajor_val_two, Shape.rowMajor_val_three]
    show (0 * 68 + (x 0).val) * 68 + (x 1).val = (x 0).val * 68 + (x 1).val
    omega

/-- A table copied to the tile's slab leaves there the partial counts, whatever was there before. -/
theorem slab_lands (h : k0_cond1 L = 1#1) (ei : S2x544.Idx → BitVec 32) (f₀ : S4x68x68.Idx → F .f32) (w : S68x68.Idx → F .f32)
    (hw : w = tileCounts ei (L 1).val) (i : S4x68x68.Idx) (hi : i ∈ (oSlabK L h).view.set) :
    (oSlabK L h).view.writes (Elt F) f₀ [⟨Rect.whole S68x68, w⟩] i = parts ei i := by
  subst hw
  obtain ⟨x, -, rfl⟩ := Finset.mem_map.mp hi
  have h1 := View.read_writes_cons_hit (Val := Elt F) (oSlabK L h).view f₀ (Rect.whole S68x68) (tileCounts ei (L 1).val) [] x x (Rect.emb_whole_apply _ _)
  exact h1.trans (read_slab (F := F) L h ei x).symm

/-! ## The task -/

/-- One tile's task: the edge list's copy issued, the table zeroed while it is on its way, the copy awaited, the
    tile's edges counted, the table copied to the tile's slab and that copy awaited. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ (eTok m d (jL L) ∗ oSlab d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L eV (Memref.isWhole_whole _) oV (Memref.isWhole_whole _) sE (Memref.isWhole_whole _) sA (Memref.isWhole_whole _)
            cc0_scratch2 cc0_scoped0)
          fun _ => iprop((eTok m d (jL L) ∗ oSlab d (jL L) (partsM m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h : k0_cond1 L = 1#1 := cond1_true L
  rw [cc0_build_eq_skeleton]; unfold cc0_build_skel
  rw [dif_pos h]
  rw [(K (F := F)).scopedBufs_V hF d (cV L) (jV L), SparseCore.Cfg.scopedSems0_V (Val := Elt F) d (cV L) (jV L), ownSems0_V, ownBufs_V]
  iintro ⟨#Hlv, -, ⟨He, Ho⟩, ⟨⟨%fe, Hs⟩, ⟨%fa, Ha⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave He' := (Entails.of_eq (pts_eV (F := F) d L _ _).symm) $$ He
  ihave Ho' := (Entails.of_eq (pts_oSlabK (F := F) d L h _).symm) $$ Ho
  ihave Hs' := (Entails.of_eq (pts_sE (F := F) d L _).symm) $$ Hs
  ihave Ha' := (Entails.of_eq (pts_sA (F := F) d L _).symm) $$ Ha
  sl_exec
  sl_for (zeroInv (F := F) d L) $$ [Ha']
  case region =>
    intro t _
    exact zero_trip (F := F) d L h t _ _ _
  · unfold zeroInv
    iexists _
    isplitr
    swap; · iexact Ha'
    ipureintro; intro ix hix; exact absurd hix (by omega)
  iintro %_ HI
  unfold zeroInv
  icases HI with ⟨%f, %hf, Ha⟩
  sl_exec
  ihave Hs := (Entails.of_eq (show ((sE : Memref sig .scVector .vmem S2x544 .i32).view.loc (V d (cV L) (jV L)) ↦{fullShare}
        View.write (Elt F) (sE : Memref sig .scVector .vmem S2x544 .i32).view fe (tile_body.sl.dma0 m d) Finset.univ : sProp 𝕄)
      = edgePts (F := F) d L (m (eLoc d)) from
    congrArg (fun g => edgePts (F := F) d L g) (View.write_whole_univ (Val := Elt F) (cc0_scratch0 : Ref sig .scVector) fe (m (eLoc d))))) $$ Hs'
  have hz : f = countsFrom (m (eLoc d)) (16 * lo (L 1).val) (16 * 0) := by
    funext ix
    exact hf ix (by have := (ix 0).isLt; rw [show Scf.trips k0_t1_loop.lb k0_t1_loop.ub k0_t1_loop.st = 17 from t1_trips]; exact this)
  subst hz
  sl_for (edgeInv (F := F) d L (m (eLoc d))) $$ [Hs Ha]
  case region =>
    intro t _
    exact edge_trip (F := F) d L h (m (eLoc d)) (hpre d) t _ _ _ _
  · unfold edgeInv
    isplitl [Hs]; · iexact Hs
    iexact Ha
  iintro %_ HI
  unfold edgeInv
  icases HI with ⟨Hs, Ha⟩
  sl_exec
  sl_step
  isplitl [He' Ho']
  · isplitl [He']
    · iapply (Entails.of_eq (pts_eV (F := F) d L _ _)); iexact He'
    · have hc : (tile_body.sl.dma0_1 m d L : S68x68.Idx → F .f32) = tileCounts (m (eLoc d)) (L 1).val := by
        have ht : Scf.trips (k0_t2_loop L).lb (k0_t2_loop L).ub (k0_t2_loop L).st = lo ((L 1).val + 1) - lo (L 1).val := t2_trips L
        show countsFrom _ _ (16 * Scf.trips (k0_t2_loop L).lb (k0_t2_loop L).ub (k0_t2_loop L).st) = _
        rw [ht]; rfl
      iapply (Entails.of_eq ((pointsTo_congr (slab_lands (F := F) L h (m (eLoc d)) (m (oLoc d)) _ hc)).trans
        (pts_oSlabK (F := F) d L h (partsM m d))))
      iexact Ho'
  isplitl [Hs Ha Hbufs]
  · isplitl [Hs]; · iexists _; iexact Hs
    isplitl [Ha]; · iexists _; iexact Ha
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  · exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

/-- The body that a tile runs. -/
theorem defs₀_vector (c : Fin τ.nSC) (s : Fin τ.nSub) :
    defs₀ (F := F) (.scVector c s) 0 ()
      = SparseCore.onTile hcore0 hsub0 (fun c s => cc0_build (coordsV c s) eV (Memref.isWhole_whole _) oV (Memref.isWhole_whole _)
          sE (Memref.isWhole_whole _) sA (Memref.isWhole_whole _) cc0_scratch2 cc0_scoped0) ⟨⟩ c s := rfl

omit [FloatOps F] in
/-- What a tile's task leaves of its recorded waits is what the call's frame asks. -/
theorem obl_post {thr : Thread nD τ} {A B C : sProp 𝕄} {O : CellTallies nD τ sig (HIx 1)} {W : Waits sig (HIx 1)} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some (0 : Fin 1)⌝ ∗ owes thr O W') : sProp 𝕄) := by
  iintro ⟨HA, HB, HC, %W', %hW', HO⟩
  isplitl [HA]; · iexact HA
  isplitl [HB]; · iexact HB
  isplitl [HC]; · iexact HC
  iexists W'; isplitr
  · ipureintro; exact fun p hp => (hW' p hp).elim .inl fun h => .inr (.inl h)
  · iexact HO

/-- Every tile of the call discharges what the call asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body m d (coordsV ⟨_, hci.1⟩ ⟨_, hci.2⟩) hF hpre O W hO).trans (wp_mono frame _ _ fun _ => obl_post)

end Cert.Proof.Run

end
-- ==== Proof.Split.lean ====
/-
  The deal of the SparseCore call's operands among its four tiles, and the launch element of the ghost state.

  The edge list is dealt as four read shares and a remainder that stays aside until the tiles are done. The partial
  counts are dealt as their four slabs. The launch element carries the handshakes' rounds and the rounds of the
  TensorCore call's staging buffers.
-/
module

public import proofs.«01_k».proof.Proof.Tile
public import Idealize.ShloMosaic.Lib.Pipeline.Sound

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ)

/-! ## The slabs make the array of partial counts -/

/-- A tile's slab as its view names it is the part of the array. -/
theorem slabSet_eq (i : Fin 4) : slabSet i = (slab i).set := by
  show ((View.whole (main_v0_scv : Ref sig .scVector)).slice (slab i)).set = _
  rw [View.set_slice]; exact Finset.map_refl

/-- Two tiles' slabs share no element. -/
theorem slabs_disjoint : ∀ i ∈ (Finset.univ : Finset (Fin 4)), ∀ j ∈ (Finset.univ : Finset (Fin 4)), i ≠ j → Disjoint (slabSet i) (slabSet j) :=
  fun i _ j _ h => by rw [slabSet_eq, slabSet_eq]; exact Rect.part_disjoint hdiv h

/-- The four slabs are the whole array. -/
theorem slabs_cover : (Finset.univ : Finset (Fin 4)).biUnion slabSet = Finset.univ :=
  (Finset.biUnion_congr rfl fun i _ => slabSet_eq i).trans (Rect.biUnion_part hdiv)

/-- The array of partial counts held whole is its four slabs held. -/
theorem oPts_slabs (d : Dev nD) (f : Buf (Elt F) (oLoc d)) :
    (oLoc d ↦{fullShare} f : sProp 𝕄) = bigSep Finset.univ fun i : Fin 4 => oLoc d ↦[slabSet i]{fullShare} f := by
  rw [← pointsTo_biUnion Finset.univ (ℓ := oLoc d) slabSet slabs_disjoint, slabs_cover]; try rfl

variable [FloatOps F]

/-- A conjunction over the call's tiles, numbered as the slabs are. -/
theorem bigSep_tiles (Φ : Fin 4 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands dealt to the tiles, and put together again from what the tiles bring back. -/
theorem vecSplit : (K (F := F)).VecSplit' (P m) 0 := by
  intro d c
  show iprop(ePts m d ∗ oPts d (m (oLoc d))) ⊢ |={Set.univ}=> iprop(
      (bigSep Finset.univ fun i : Fin ((K (F := F)).nSub 0) =>
        iprop(eTok m d (Fin.cast nSub_zero i) ∗ oSlab d (Fin.cast nSub_zero i) (m (oLoc d))))
      ∗ ((bigSep Finset.univ fun i : Fin ((K (F := F)).nSub 0) =>
          iprop(eTok m d (Fin.cast nSub_zero i) ∗ oSlab d (Fin.cast nSub_zero i) (partsM m d)))
          -∗ iprop(ePts m d ∗ oPts d (partsM m d))))
  rw [bigSep_tiles (F := F) (fun i => iprop(eTok m d i ∗ oSlab d i (m (oLoc d)))),
    bigSep_tiles (F := F) (fun i => iprop(eTok m d i ∗ oSlab d i (partsM m d))), bigSep_sep', bigSep_sep']
  unfold oPts oSlab
  rw [oPts_slabs, oPts_slabs]
  iintro ⟨He, Ho⟩
  ihave H := (Transfers.pointsTo_toks_split fullShare 4) $$ He
  icases H with ⟨Hd, Ht⟩
  imodintro
  isplitl [Ht Ho]
  · isplitl [Ht]; · iexact Ht
    iexact Ho
  iintro ⟨Ht, Ho⟩
  isplitl [Hd Ht]
  · iapply (Transfers.pointsTo_toks_join fullShare 4)
    isplitl [Hd] <;> iassumption
  iexact Ho

/-! ## The launch element -/

/-- The launch element: the handshakes' rounds, the rounds of the TensorCore call's staging buffers, no counter. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- The launch element comes apart into the handshakes' part and the staging buffers' part. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What a core's @main takes from the launch element: the staging cells' ghost state and duty tokens. -/
abbrev G (d : Dev nD) : sProp 𝕄 :=
  iprop((bigSep Finset.univ fun p : Fin 1 => Pipeline.cellsGhost (nD := nD) (τ := τ) cfgs EP p d)
    ∗ bigSep Finset.univ fun p : Fin 1 => (Pipeline.toksInit cfgs EP p d : sProp 𝕄))

/-- No thread carries anything of its own into the call. -/
theorem px_emp : (bigSep Finset.univ fun thr : Thread nD τ => bigSep Finset.univ fun q : Fin 1 => (P (F := F) m).x q thr) = (iprop(emp) : sProp 𝕄) := by
  show (bigSep Finset.univ fun _ : Thread nD τ => bigSep Finset.univ fun _ : Fin 1 => (BI.emp : sProp 𝕄)) = BI.emp
  rw [bigSep_congr fun _ _ => bigSep_emp_const _, bigSep_emp_const]

/-- The launch element dealt: the handshakes' rounds, each core's staging cells, nothing to the other threads. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [px_emp]
  unfold u₀ G
  rw [bigSep_sep']
  iintro Hu
  ihave H := (ownU_split _ _) $$ Hu
  icases H with ⟨HH, HP⟩
  imod (Pipeline.fund_ghost (nD := nD) (τ := τ) (cfgs := cfgs) (hinj := cellOf_inj) (ER := EP)) $$ HP with ⟨Hg, Ht⟩
  imodintro
  isplitl [HH]; · iexact HH
  isplitl [Hg Ht]
  · isplitl [Hg]; · iexact Hg
    iexact Ht
  iempintro

end Cert.Proof.Run

end
-- ==== Proof.Region.lean ====
/-
  The TensorCore call: its body run on the staging buffers, with the value it stores.

  The body reads the four tables of partial counts, the node features, the assignment scores, the stacked square
  weights and the stacked rows (the first layer's weights and every layer's bias). It stores the pooled features
  (`tcOut`).
-/
module

public import proofs.«01_k».proof.Proof.Split
public import Idealize.ShloMosaic.Lib.Pipeline.Value
public import Idealize.ShloMosaic.Lib.VecWindow

@[expose] public section

noncomputable section

namespace Cert.Proof.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the body computes -/

/-- Row `k` of the stacked rows. -/
def rowOf (b : S7x128.Idx → F .f32) (k : Fin 7) : S1x128.Idx → F .f32 :=
  fun ix => b (fun | 0 => k | 1 => ix 1 | ⟨_ + 2, h⟩ => absurd h (Nat.not_lt.2 (Nat.le_add_left _ _)))

/-- Matrix `k` of the stacked square weights. -/
def matOf (w : S4x128x128.Idx → F .f32) (k : Fin 4) : S1x128x128.Idx → F .f32 :=
  fun ix => w (fun | 0 => k | 1 => ix 1 | 2 => ix 2 | ⟨_ + 3, h⟩ => absurd h (Nat.not_lt.2 (Nat.le_add_left _ _)))

/-- The node features after the first layer. -/
def tcH1 (p : S4x68x68.Idx → F .f32) (x : S68x2.Idx → F .f32) (b : S7x128.Idx → F .f32) : S68x128.Idx → F .f32 :=
  k1_pay3 p x (rowOf b 0) (rowOf b 1) (rowOf b 2) (rowOf b 3) (rowOf b 4)

/-- The node features after the third layer. -/
def tcH3 (p : S4x68x68.Idx → F .f32) (x : S68x2.Idx → F .f32) (w : S4x128x128.Idx → F .f32) (b : S7x128.Idx → F .f32) : S68x128.Idx → F .f32 :=
  k1_pay4 (k1_pay2 p) (tcH1 p x b) (matOf w 0) (matOf w 1) (rowOf b 5) (matOf w 2) (matOf w 3) (rowOf b 6)

/-- What the body stores. -/
def tcOut (p : S4x68x68.Idx → F .f32) (x : S68x2.Idx → F .f32) (s : S1x68x8.Idx → F .f32) (w : S4x128x128.Idx → F .f32)
    (b : S7x128.Idx → F .f32) : S8x128.Idx → F .f32 :=
  k1_pay1 (tcH3 p x w b) (k1_pay5 s) (k1_pay6 s)

/-! ## The body's run -/

abbrev M0 : Memref sig .tc .vmem S4x68x68 .f32 := stage1_0 0
abbrev M1 : Memref sig .tc .vmem S68x2 .f32 := stage1_1 0
abbrev M2 : Memref sig .tc .vmem S1x68x8 .f32 := stage1_2 0
abbrev M3 : Memref sig .tc .vmem S4x128x128 .f32 := stage1_3 0
abbrev M4 : Memref sig .tc .vmem S7x128 .f32 := stage1_4 0
abbrev M5 : Memref sig .tc .vmem S8x128 .f32 := stage1_5 0

/-- Memref `M`'s buffer on core `c` held whole at `f`. -/
abbrev pt (c : Dev nD) {sp : Space} {Sh : Shape} {e : EltTy} (M : Memref sig .tc sp Sh e) (f : Buf (Elt F) (M.view.loc (c : Thread nD τ))) : sProp 𝕄 :=
  M.view.loc (c : Thread nD τ) ↦{fullShare} f

/-- A load of one row of the stacked rows reads that row. -/
theorem read_row (f : S7x128.Idx → F .f32) (k : Fin 7) (inb : ∀ a, (![k.val, 0] : Fin 2 → ℕ) a + S1x128.size a ≤ S7x128.size a) :
    View.readAt (Elt F) (View.whole (cc1_stg4_0 : Ref sig .tc)) (Rect.unit (s := S7x128) ![k.val, 0] S1x128.size inb).toLoadRect f = rowOf f k := by
  funext ix
  rw [View.readAt_apply]
  refine congrArg f (funext fun a => Fin.ext ?_)
  match a with
  | 0 => have : (ix 0).val = 0 := by have := (ix 0).isLt; change (ix 0).val < 1 at this; omega
         show k.val + 1 * (ix 0).val = k.val; omega
  | 1 => show 0 + 1 * (ix 1).val = (ix 1).val; omega

/-- A load of one matrix of the stacked weights reads that matrix. -/
theorem read_mat (f : S4x128x128.Idx → F .f32) (k : Fin 4) (inb : ∀ a, (![k.val, 0, 0] : Fin 3 → ℕ) a + S1x128x128.size a ≤ S4x128x128.size a) :
    View.readAt (Elt F) (View.whole (cc1_stg3_0 : Ref sig .tc)) (Rect.unit (s := S4x128x128) ![k.val, 0, 0] S1x128x128.size inb).toLoadRect f = matOf f k := by
  funext ix
  rw [View.readAt_apply]
  refine congrArg f (funext fun a => Fin.ext ?_)
  match a with
  | 0 => have : (ix 0).val = 0 := by have := (ix 0).isLt; change (ix 0).val < 1 at this; omega
         show k.val + 1 * (ix 0).val = k.val; omega
  | 1 => show 0 + 1 * (ix 1).val = (ix 1).val; omega
  | 2 => show 0 + 1 * (ix 2).val = (ix 2).val; omega

/-- From the staging buffers held whole the body runs to its return, with the result's buffer at `tcOut`. -/
theorem tc_run (c : Dev nD) (f0 : S4x68x68.Idx → F .f32) (f1 : S68x2.Idx → F .f32) (f2 : S1x68x8.Idx → F .f32)
    (f3 : S4x128x128.Idx → F .f32) (f4 : S7x128.Idx → F .f32) (f5 : S8x128.Idx → F .f32) (E : Set ℕ) (Q : PUnit → sProp 𝕄) :
    iprop(pt c M0 f0 ∗ pt c M1 f1 ∗ pt c M2 f2 ∗ pt c M3 f3 ∗ pt c M4 f4 ∗ pt c M5 f5
        ∗ (iprop(pt c M0 f0 ∗ pt c M1 f1 ∗ pt c M2 f2 ∗ pt c M3 f3 ∗ pt c M4 f4 ∗ pt c M5 (tcOut f0 f1 f2 f3 f4)) -∗ Q ⟨⟩))
      ⊢ wp frame (wpE (defs₀ (F := F)) Variants.none c none) E
          (cc1__tc_body M0 (hstage1_0 0) M1 (hstage1_1 0) M2 (hstage1_2 0) M3 (hstage1_3 0) M4 (hstage1_4 0) M5 (hstage1_5 0)) Q := by
  rw [cc1__tc_body_eq_skeleton]
  unfold cc1__tc_body_skel
  rw [k1_part1_eq_skeleton, k1_part2_eq_skeleton]
  unfold k1_part1_skel k1_part2_skel
  iintro ⟨H0, H1, H2, H3, H4, H5, Hk⟩
  sl_exec!
  sl_step
  iapply Hk
  have hv : M5.view.writes (Elt F) M5.view.junk (tc_run.sl.H5_1 f0 f1 f2 f3 f4) = tcOut f0 f1 f2 f3 f4 := by
    unfold tcOut tcH3 tcH1
    rw [← read_row f4 0 inb_S7x128_S1x128_0_0, ← read_row f4 1 inb_S7x128_S1x128_1_0, ← read_row f4 2 inb_S7x128_S1x128_2_0,
      ← read_row f4 3 inb_S7x128_S1x128_3_0, ← read_row f4 4 inb_S7x128_S1x128_4_0, ← read_row f4 5 inb_S7x128_S1x128_5_0,
      ← read_row f4 6 inb_S7x128_S1x128_6_0, ← read_mat f3 0 inb_S4x128x128_S1x128x128_0_0_0, ← read_mat f3 1 inb_S4x128x128_S1x128x128_1_0_0,
      ← read_mat f3 2 inb_S4x128x128_S1x128x128_2_0_0, ← read_mat f3 3 inb_S4x128x128_S1x128x128_3_0_0]
    have e0 : View.readAt (Elt F) (View.whole (cc1_stg0_0 : Ref sig .tc)) (Rect.unit (s := S4x68x68) ![0, 0, 0] ![4, 68, 68] inb_S4x68x68_S4x68x68_0_0_0).toLoadRect f0 = f0 :=
      View.readAt_full (Val := Elt F) (View.whole (cc1_stg0_0 : Ref sig .tc)) f0 inb_S4x68x68_S4x68x68_0_0_0
    have e1 : View.readAt (Elt F) (View.whole (cc1_stg1_0 : Ref sig .tc)) (Rect.unit (s := S68x2) ![0, 0] ![68, 2] inb_S68x2_S68x2_0_0).toLoadRect f1 = f1 :=
      View.readAt_full (Val := Elt F) (View.whole (cc1_stg1_0 : Ref sig .tc)) f1 inb_S68x2_S68x2_0_0
    have e2 : View.readAt (Elt F) (View.whole (cc1_stg2_0 : Ref sig .tc)) (Rect.unit (s := S1x68x8) ![0, 0, 0] ![1, 68, 8] inb_S1x68x8_S1x68x8_0_0_0).toLoadRect f2 = f2 :=
      View.readAt_full (Val := Elt F) (View.whole (cc1_stg2_0 : Ref sig .tc)) f2 inb_S1x68x8_S1x68x8_0_0_0
    dsimp only [tc_run.sl.H5_1]
    funext y
    refine (View.read_writes_cons_hit_of_coords (Val := Elt F) (View.whole (cc1_stg5_0 : Ref sig .tc)) _ _ _ _ y y fun a => ?_).trans ?_
    · match a with
      | 0 => show (y 0).val = 0 + 1 * (y 0).val; omega
      | 1 => show (y 1).val = 0 + 1 * (y 1).val; omega
    rw [e0, e1, e2]
    rfl
  rw [hv]
  isplitl [H0]; · iexact H0
  isplitl [H1]; · iexact H1
  isplitl [H2]; · iexact H2
  isplitl [H3]; · iexact H3
  isplitl [H4]; · iexact H4
  iexact H5

end Cert.Proof.Run

end
-- ==== Proof.Seg.lean ====
/-
  The TensorCore call as a region of @main: entered from any contents of the core's buffers, left with the result's
  array at the stored value and every other buffer as it was.
-/
module

public import proofs.«01_k».proof.Proof.Region
public import Idealize.ShloMosaic.Lib.Pipeline.ValueKit

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data, at an entry valuation -/

variable (W : (c : Dev nD) → Valuation τ sig (Elt F))

/-- The pairs a core may have waited on when the region is entered: those low enough for the state after the
    SparseCore call. -/
def Bd (c : Dev nD) : Set (SemLoc sig × HIx 1) :=
  {p | (K (F := F)).lev ((c.tc : Thread nD τ), p.1) p.2 ≤ 8 * SparseCore.Cfg.Blocks.fst (Q := 1) (N := 1) 1}

/-- What the region stores, from the entry valuation. -/
def stored (c : Dev nD) : S8x128.Idx → F .f32 :=
  tcOut (W c (Proc.devRef .tc main_v0)) (W c (Proc.devRef .tc main_arg0)) (W c (Proc.devRef .tc main_arg3))
    (W c (Proc.devRef .tc main_v5)) (W c (Proc.devRef .tc main_v14))

/-- The proof data: the arrays at the entry valuation, the operands' buffers as fetched, the result's at the stored
    value, nothing owed. -/
def dat (c : Dev nD) : Dat τ (Elt F) (HIx 1) ℕ UU ℕ cfg1 c where
  A w := W c (Proc.devRef .tc (Pipeline.arrRef spec1 w))
  after w _ := match w with
    | ⟨0, _⟩ => (W c (Proc.devRef .tc main_v0) : S4x68x68.Idx → F .f32)
    | ⟨1, _⟩ => (W c (Proc.devRef .tc main_arg0) : S68x2.Idx → F .f32)
    | ⟨2, _⟩ => (W c (Proc.devRef .tc main_arg3) : S1x68x8.Idx → F .f32)
    | ⟨3, _⟩ => (W c (Proc.devRef .tc main_v5) : S4x128x128.Idx → F .f32)
    | ⟨4, _⟩ => (W c (Proc.devRef .tc main_v14) : S7x128.Idx → F .f32)
    | ⟨5, _⟩ => stored W c
  Φ _ := Pipeline.scopedRest (Ix := HIx 1) (Name := ℕ) (U := UU) (Lvl := ℕ) (Val := Elt F) spec1 c
  q _ := fullShare
  owed _ := 0
  recorded _ := Bd (F := F) c

/-- Operand 0's buffer holds the whole operand when the body runs. -/
theorem before0 (c : Dev nD) (d) : (dat W c).before 0 t1_0 d = (W c (Proc.devRef .tc main_v0) : S4x68x68.Idx → F .f32) := by
  unfold Dat.before; rw [if_pos (by decide)]
  show ((cfg1.win 0).blk t1_0).view.read (Elt F) (W c (Proc.devRef .tc main_v0)) = _
  funext y
  refine congrArg (W c (Proc.devRef .tc main_v0) : S4x68x68.Idx → F .f32) (funext fun a => Fin.ext ?_)
  blk_simp
  rw [(by decide +kernel : ∀ a, win1_0.index t1_0 a = 0) a, Nat.zero_mul, Nat.zero_add]

/-- Operand 1's buffer holds the whole operand when the body runs. -/
theorem before1 (c : Dev nD) (d) : (dat W c).before 1 t1_0 d = (W c (Proc.devRef .tc main_arg0) : S68x2.Idx → F .f32) := by
  unfold Dat.before; rw [if_pos (by decide)]
  show ((cfg1.win 1).blk t1_0).view.read (Elt F) (W c (Proc.devRef .tc main_arg0)) = _
  funext y
  refine congrArg (W c (Proc.devRef .tc main_arg0) : S68x2.Idx → F .f32) (funext fun a => Fin.ext ?_)
  blk_simp
  rw [(by decide +kernel : ∀ a, win1_1.index t1_0 a = 0) a, Nat.zero_mul, Nat.zero_add]

/-- Operand 2's buffer holds the whole operand when the body runs. -/
theorem before2 (c : Dev nD) (d) : (dat W c).before 2 t1_0 d = (W c (Proc.devRef .tc main_arg3) : S1x68x8.Idx → F .f32) := by
  unfold Dat.before; rw [if_pos (by decide)]
  show ((cfg1.win 2).blk t1_0).view.read (Elt F) (W c (Proc.devRef .tc main_arg3)) = _
  funext y
  refine congrArg (W c (Proc.devRef .tc main_arg3) : S1x68x8.Idx → F .f32) (funext fun a => Fin.ext ?_)
  blk_simp
  rw [(by decide +kernel : ∀ a, win1_2.index t1_0 a = 0) a, Nat.zero_mul, Nat.zero_add]

/-- Operand 3's buffer holds the whole operand when the body runs. -/
theorem before3 (c : Dev nD) (d) : (dat W c).before 3 t1_0 d = (W c (Proc.devRef .tc main_v5) : S4x128x128.Idx → F .f32) := by
  unfold Dat.before; rw [if_pos (by decide)]
  show ((cfg1.win 3).blk t1_0).view.read (Elt F) (W c (Proc.devRef .tc main_v5)) = _
  funext y
  refine congrArg (W c (Proc.devRef .tc main_v5) : S4x128x128.Idx → F .f32) (funext fun a => Fin.ext ?_)
  blk_simp
  rw [(by decide +kernel : ∀ a, win1_3.index t1_0 a = 0) a, Nat.zero_mul, Nat.zero_add]

/-- Operand 4's buffer holds the whole operand when the body runs. -/
theorem before4 (c : Dev nD) (d) : (dat W c).before 4 t1_0 d = (W c (Proc.devRef .tc main_v14) : S7x128.Idx → F .f32) := by
  unfold Dat.before; rw [if_pos (by decide)]
  show ((cfg1.win 4).blk t1_0).view.read (Elt F) (W c (Proc.devRef .tc main_v14)) = _
  funext y
  refine congrArg (W c (Proc.devRef .tc main_v14) : S7x128.Idx → F .f32) (funext fun a => Fin.ext ?_)
  blk_simp
  rw [(by decide +kernel : ∀ a, win1_4.index t1_0 a = 0) a, Nat.zero_mul, Nat.zero_add]

/-- The library's body obligation: the staging buffers taken apart, the body's run, and its post put together. -/
theorem body_obligation (c : Dev nD) : BodyObligation (dat W c) (defs₀ (F := F)) 𝒱₀ none Set.univ := fun t => by
  obtain rfl := fin_N1 t
  rw [bigSep_W1, bigSep_W1]
  simp only [owns_whole_eq]
  rw [show (dat W c).Φ t1_0.succ = (dat W c).Φ t1_0.castSucc from rfl,
    show (dat W c).owesAt none t1_0.succ = (dat W c).owesAt none t1_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before0] at h0
  rw [before1] at h1
  rw [before2] at h2
  rw [before3] at h3
  rw [before4] at h4
  subst h0; subst h1; subst h2; subst h3; subst h4
  iapply (tc_run c _ _ _ _ _ f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-- The result's array after the region is what the body stored. -/
theorem arr_out (c : Dev nD) : (dat W c).arrAt 5 cfg1.N = stored W c := by
  refine (dat W c).arrAt_eq_of_after_last 5 t1_0 (by decide +kernel) _ fun j => ?_
  blk_simp
  rfl

/-! ## The region over the thread state -/

/-- The one admissible contents of the tables that the call prefetches: it prefetches none. -/
abbrev adm : (p : Fin 1) → (pcfgs (F := F) p).Adm := fun p => (cfgs p).toPCfg_adm

/-- The proof data of every pipeline of @main, which has one. -/
def pdats : (p : Fin 1) → (c : Dev nD) → Dat τ (Elt F) (HIx 1) ℕ UU ℕ (Pipeline.pin (pcfgs (F := F)) adm p) c
  | ⟨0, _⟩ => fun c => dat W c

/-- The entry valuation with the result's array at the stored value. -/
def left (c : Dev nD) : Valuation τ sig (Elt F) := Function.update (W c) (Proc.devRef .tc main_v15) (stored W c)

/-- What a core owes around the region: nothing, its recorded waits low enough for what follows the SparseCore call. -/
abbrev owesB (c : Dev nD) : sProp 𝕄 := Pipeline.owesWithin c (0 : CellTallies nD τ sig (HIx 1)) (Bd (F := F) c)

/-- After the TensorCore call its result's buffer holds the stored value. -/
theorem left_out (c : Dev nD) : left W c (Proc.devRef .tc main_v15) = stored W c := Function.update_self ..
/-- The TensorCore call leaves every other buffer as it was. -/
theorem left_ne (c : Dev nD) (b : Ref sig .tc) (h : b ≠ main_v15) : left W c (Proc.devRef .tc b) = W c (Proc.devRef .tc b) :=
  Function.update_of_ne (fun e => h (Proc.devRef_injective _ e)) _ _

/-- The pairs that the pipeline's own waits record lie low. -/
theorem bound_sub (c : Dev nD) (t) : (dat W c).bound none t ⊆ Bd (F := F) c := by
  rintro p (h | ⟨w, s, rfl⟩)
  · exact h
  · exact Nat.zero_le _

set_option backward.isDefEq.respectTransparency.types false in
/-- The region: entered with every unscoped buffer of the core at `W c`, left with them at `left W c`. -/
def reg : Pipeline.RegionSeg (pcfgs (F := F)) adm (pdats W) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (fun b => W c (Proc.devRef .tc b)) ∗ owesB (F := F) c)
  post c := iprop(unscopedBufs c (fun b => left W c (Proc.devRef .tc b)) ∗ owesB (F := F) c)
  X _ := BI.emp
  Y _ := BI.emp
  Z c := Pipeline.unscopedRest (Ix := HIx 1) (Name := ℕ) (U := UU) (Lvl := ℕ) spec1 c (fun b => W c (Proc.devRef .tc b))
  hentry c := by
    rw [Pipeline.ownSems0_none]
    have hsplit := Pipeline.arrays_of_unscopedBufs (p := 0) (pcfgs (F := F)) adm (pdats W) (launch1).win (launch1).arr_whole c
      ((pdats W 0 c).share_full fun _ => rfl) (fun b => W c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (B := Bd (F := F) c) (fun _ h => Or.inl h)); iexact HO
    isplitr; · iempintro
    iexact Hrest
  hin c := by
    rw [show (pdats W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats W) ((pdats W 0 c).share_full fun _ => rfl) (fun b => W c (Proc.devRef .tc b)) (fun b => left W c (Proc.devRef .tc b)) ((pdats W 0 c).arrAt · cfg1.N)
      (fun w => by
        fin_cases w
        · exact ((pdats W 0 c).arrAt_in 0 rfl _).trans (left_ne W c main_v0 (by decide)).symm
        · exact ((pdats W 0 c).arrAt_in 1 rfl _).trans (left_ne W c main_arg0 (by decide)).symm
        · exact ((pdats W 0 c).arrAt_in 2 rfl _).trans (left_ne W c main_arg3 (by decide)).symm
        · exact ((pdats W 0 c).arrAt_in 3 rfl _).trans (left_ne W c main_v5 (by decide)).symm
        · exact ((pdats W 0 c).arrAt_in 4 rfl _).trans (left_ne W c main_v14 (by decide)).symm
        · exact (arr_out W c).trans (left_out W c).symm)
      (fun b hb => left_ne W c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    iapply (Pipeline.owesWithin_mono c _ (bound_sub W c _)); iexact HO

end Cert.Proof.Run

end
-- ==== Proof.Main.lean ====
/-
  The program's run: @main's SparseCore call, its host operations, its TensorCore call and the reshape of the result,
  from the launch memory to the final memory.
-/
module

public import proofs.«01_k».proof.Proof.Split
public import proofs.«01_k».proof.Proof.Seg

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.ShloMosaic.StableHlo (held held_sub_split held_congr after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main as its two calls and the host operations between and after them -/

/-- The host operations between the two calls: the stacked weight matrices and the stacked rows. -/
def ops : List (HloOp τ sig (Elt F)) :=
  [ StableHlo.unary main_arg8 main_v1 (broadcastInDim S1x128x128 ![1, 2] bcast_S128x128_S1x128x128_1_2 : (⟨S128x128, .f32⟩ : BufTy).Contents (Elt F) → (⟨S1x128x128, .f32⟩ : BufTy).Contents (Elt F)),
    StableHlo.unary main_arg10 main_v2 (broadcastInDim S1x128x128 ![1, 2] bcast_S128x128_S1x128x128_1_2 : (⟨S128x128, .f32⟩ : BufTy).Contents (Elt F) → (⟨S1x128x128, .f32⟩ : BufTy).Contents (Elt F)),
    StableHlo.unary main_arg12 main_v3 (broadcastInDim S1x128x128 ![1, 2] bcast_S128x128_S1x128x128_1_2 : (⟨S128x128, .f32⟩ : BufTy).Contents (Elt F) → (⟨S1x128x128, .f32⟩ : BufTy).Contents (Elt F)),
    StableHlo.unary main_arg14 main_v4 (broadcastInDim S1x128x128 ![1, 2] bcast_S128x128_S1x128x128_1_2 : (⟨S128x128, .f32⟩ : BufTy).Contents (Elt F) → (⟨S1x128x128, .f32⟩ : BufTy).Contents (Elt F)),
    StableHlo.nary ![main_v1, main_v2, main_v3, main_v4] main_v5 (fun u => (concatenate S4x128x128 0 [⟨S1x128x128, (u 0 : (⟨S1x128x128, .f32⟩ : BufTy).Contents (Elt F))⟩, ⟨S1x128x128, (u 1 : (⟨S1x128x128, .f32⟩ : BufTy).Contents (Elt F))⟩, ⟨S1x128x128, (u 2 : (⟨S1x128x128, .f32⟩ : BufTy).Contents (Elt F))⟩, ⟨S1x128x128, (u 3 : (⟨S1x128x128, .f32⟩ : BufTy).Contents (Elt F))⟩] concatenates_S1x128x128_S1x128x128_S1x128x128_S1x128x128_S4x128x128_d0 : (⟨S4x128x128, .f32⟩ : BufTy).Contents (Elt F))),
    StableHlo.unary main_arg4 main_v6 ((transpose S2x128 [1, 0] · transposes_S128x2_S2x128_1_0) : (⟨S128x2, .f32⟩ : BufTy).Contents (Elt F) → (⟨S2x128, .f32⟩ : BufTy).Contents (Elt F)),
    StableHlo.unary main_arg6 main_v7 ((transpose S2x128 [1, 0] · transposes_S128x2_S2x128_1_0) : (⟨S128x2, .f32⟩ : BufTy).Contents (Elt F) → (⟨S2x128, .f32⟩ : BufTy).Contents (Elt F)),
    StableHlo.binary main_arg5 main_arg7 main_v8 (addf : (⟨S128, .f32⟩ : BufTy).Contents (Elt F) → (⟨S128, .f32⟩ : BufTy).Contents (Elt F) → (⟨S128, .f32⟩ : BufTy).Contents (Elt F)),
    StableHlo.unary main_v8 main_v9 (broadcastInDim S1x128 ![1] bcast_S128_S1x128_1 : (⟨S128, .f32⟩ : BufTy).Contents (Elt F) → (⟨S1x128, .f32⟩ : BufTy).Contents (Elt F)),
    StableHlo.binary main_arg9 main_arg11 main_v10 (addf : (⟨S128, .f32⟩ : BufTy).Contents (Elt F) → (⟨S128, .f32⟩ : BufTy).Contents (Elt F) → (⟨S128, .f32⟩ : BufTy).Contents (Elt F)),
    StableHlo.unary main_v10 main_v11 (broadcastInDim S1x128 ![1] bcast_S128_S1x128_1 : (⟨S128, .f32⟩ : BufTy).Contents (Elt F) → (⟨S1x128, .f32⟩ : BufTy).Contents (Elt F)),
    StableHlo.binary main_arg13 main_arg15 main_v12 (addf : (⟨S128, .f32⟩ : BufTy).Contents (Elt F) → (⟨S128, .f32⟩ : BufTy).Contents (Elt F) → (⟨S128, .f32⟩ : BufTy).Contents (Elt F)),
    StableHlo.unary main_v12 main_v13 (broadcastInDim S1x128 ![1] bcast_S128_S1x128_1 : (⟨S128, .f32⟩ : BufTy).Contents (Elt F) → (⟨S1x128, .f32⟩ : BufTy).Contents (Elt F)),
    StableHlo.nary ![main_v6, main_v7, main_v9, main_v11, main_v13] main_v14 (fun u => (concatenate S7x128 0 [⟨S2x128, (u 0 : (⟨S2x128, .f32⟩ : BufTy).Contents (Elt F))⟩, ⟨S2x128, (u 1 : (⟨S2x128, .f32⟩ : BufTy).Contents (Elt F))⟩, ⟨S1x128, (u 2 : (⟨S1x128, .f32⟩ : BufTy).Contents (Elt F))⟩, ⟨S1x128, (u 3 : (⟨S1x128, .f32⟩ : BufTy).Contents (Elt F))⟩, ⟨S1x128, (u 4 : (⟨S1x128, .f32⟩ : BufTy).Contents (Elt F))⟩] concatenates_S2x128_S2x128_S1x128_S1x128_S1x128_S7x128_d0 : (⟨S7x128, .f32⟩ : BufTy).Contents (Elt F))) ]

/-- The host operation after the TensorCore call: the result's reshape. -/
def opR : HloOp τ sig (Elt F) := StableHlo.reshape main_v15 main_v16 (rfl : (.f32 : EltTy) = .f32) shapeCasts_S8x128_S1x8x128

/-- @main is the SparseCore call, the host operations, the TensorCore call and the reshape. -/
theorem main_eq (d : Dev nD) : main (F := F) d = (sc.run d 0 >>= fun _ => (StableHlo.seq (ops (F := F)) >>= fun _ =>
    (Prog.lift (.customCall (SparseCore.inner (Pipeline.entry 0)) ()) >>= fun _ => StableHlo.seq [opR (F := F)]))) := by
  rw [StableHlo.seq_bind_seqK]; rfl

/-- The TensorCore's unscoped buffers. -/
abbrev ucRefs : Finset (DevRef τ sig) := (StableHlo.tcRefs τ sig).filter fun b => ¬ b.isScoped

/-- The unscoped buffers at a valuation, in the two ways of holding them. -/
theorem unscopedBufs_held (c : Dev nD) (W : Valuation τ sig (Elt F)) :
    (unscopedBufs c (fun b => W (Proc.devRef .tc b)) : sProp 𝕄) = held (T c) ucRefs W := by
  unfold unscopedBufs held ucRefs StableHlo.tcRefs
  rw [Finset.filter_map, bigSep_map]; rfl

/-- A TensorCore reference that is not scoped is among them. -/
theorem mem_uc (b : Ref sig .tc) (h : b.isScoped = false) : (Proc.devRef .tc b : DevRef τ sig) ∈ ucRefs :=
  Finset.mem_filter.mpr ⟨StableHlo.devRef_mem_tcRefs b, by show ¬ b.isScoped = true; rw [h]; exact Bool.false_ne_true⟩

/-! ## The valuations along the run -/

/-- The edge list and the partial counts, as device buffers. -/
abbrev e' : DevRef τ sig := Proc.devRef .tc (main_arg1 : Ref sig .tc)
abbrev o' : DevRef τ sig := Proc.devRef .tc (main_v0 : Ref sig .tc)
abbrev S2 : Finset (DevRef τ sig) := {e', o'}

/-- The launch valuation; after the SparseCore call; after the host operations; at the end. -/
def V0 (d : Dev nD) : Valuation τ sig (Elt F) := fun b => m (d, b)
def V1 (d : Dev nD) : Valuation τ sig (Elt F) := Function.update (V0 m d) o' (partsM m d)
def V2 (d : Dev nD) : Valuation τ sig (Elt F) := after ops (V1 m d)
def V4 (d : Dev nD) : Valuation τ sig (Elt F) := after [opR] (left (V2 m) d)

/-- The edge list and the partial tables are different buffers. -/
theorem e_ne_o : e' ≠ o' := fun h => absurd (Proc.devRef_injective _ h) (by decide)

/-- The two operands of the SparseCore call, held. -/
theorem held_S2 (d : Dev nD) (W : Valuation τ sig (Elt F)) :
    (held (T d) S2 W : sProp 𝕄) = iprop((eLoc d ↦{fullShare} W e') ∗ (oLoc d ↦{fullShare} W o')) := by
  unfold held S2
  rw [SparseCore.bigSep_insert' (by rw [Finset.mem_singleton]; exact e_ne_o), bigSep_singleton]

/-- The SparseCore call's two buffers are among the buffers that the program uses. -/
theorem S2_sub : S2 ⊆ ucRefs := by
  intro b hb
  rcases Finset.mem_insert.mp hb with rfl | hb
  · exact mem_uc _ rfl
  · rw [Finset.mem_singleton.mp hb]; exact mem_uc _ rfl

/-- Before the call: the operands at the launch memory, and the rest. -/
theorem held_V0 (d : Dev nD) :
    (held (T d) ucRefs (V0 m d) : sProp 𝕄) = iprop((ePts m d ∗ oPts d (m (oLoc d))) ∗ held (T d) (ucRefs \ S2) (V0 m d)) := by
  rw [held_sub_split (T d) S2_sub, held_S2]; rfl

/-- After the call: the operands with the partial counts, and the rest as it was. -/
theorem held_V1 (d : Dev nD) :
    (held (T d) ucRefs (V1 m d) : sProp 𝕄) = iprop((ePts m d ∗ oPts d (partsM m d)) ∗ held (T d) (ucRefs \ S2) (V0 m d)) := by
  rw [held_sub_split (T d) S2_sub, held_S2]
  rw [show V1 m d e' = m (eLoc d) from Function.update_of_ne e_ne_o _ _, show V1 m d o' = partsM m d from Function.update_self _ _ _]
  rw [held_congr (T d) (S := ucRefs \ S2) (V := V1 m d) (V' := V0 m d) fun b hb => Function.update_of_ne
    (fun h => (Finset.mem_sdiff.mp hb).2 (by rw [h]; exact Finset.mem_insert_of_mem (Finset.mem_singleton_self _))) _ _]

/-- The buffers at the launch memory are the buffers at the launch valuation. -/
theorem unscoped_V0 (d : Dev nD) : (unscopedBufs d (fun b => m ((SparseCore.T d).loc b)) : sProp 𝕄) = held (T d) ucRefs (V0 m d) := by
  rw [← unscopedBufs_held]; unfold V0; rfl

/-- What the call takes for the one SparseCore, and what it hands back. -/
theorem st0_eq (d : Dev nD) : (bigSep Finset.univ fun c : Fin ((K (F := F)).nCore 0) => (P m).st 0 d c) = iprop(ePts m d ∗ oPts d (m (oLoc d))) :=
  bigSep_univ_of_subsingleton (0 : Fin 1)
/-- What the call hands back, gathered over its cores, is what its one core hands back. -/
theorem dn0_eq (d : Dev nD) : (bigSep Finset.univ fun c : Fin ((K (F := F)).nCore 0) => (P m).dn 0 d c) = iprop(ePts m d ∗ oPts d (partsM m d)) :=
  bigSep_univ_of_subsingleton (0 : Fin 1)

/-- An operation over the TensorCore's buffers touches the unscoped ones only. -/
theorem sub_uc {op : HloOp τ sig (Elt F)} (h : op.bufs ⊆ StableHlo.tcRefs τ sig) : op.bufs ⊆ ucRefs := fun b hb =>
  Finset.mem_filter.mpr ⟨h hb, by rw [op.no_scoped b hb]; exact Bool.false_ne_true⟩

/-- Every host operation touches the core's unscoped buffers only. -/
theorem ops_sub : ∀ op ∈ ops (F := F), op.bufs ⊆ ucRefs := fun op hop => sub_uc (by
  revert op
  unfold ops
  simp only [List.forall_mem_cons, List.not_mem_nil, false_imp_iff, implies_true, and_true, StableHlo.unary_bufs_sub, StableHlo.binary_bufs_sub,
    StableHlo.nary_bufs_sub])
/-- The final reshape touches only buffers that the program uses. -/
theorem opR_sub : ∀ op ∈ [opR (F := F)], op.bufs ⊆ ucRefs := fun op hop => by
  rw [List.mem_singleton.mp hop]; exact sub_uc (StableHlo.reshape_bufs_sub ..)
/-- The host operations between the calls introduce no fresh buffer. -/
theorem ops_fresh : ∀ op ∈ ops (F := F), op.fresh = ∅ :=
  List.forall_iff_forall_mem.mp (StableHlo.forall_fresh_of_map rfl)
/-- The final reshape introduces no fresh buffer. -/
theorem opR_fresh : ∀ op ∈ [opR (F := F)], op.fresh = ∅ :=
  List.forall_iff_forall_mem.mp (StableHlo.forall_fresh_of_map rfl)

/-- The TensorCore's state after the one call, opened at what it owes: nothing, and a way back. -/
theorem tcSt_open (d : Dev nD) :
    ((K (F := F)).tcSt EH d 1 : sProp 𝕄) ⊢ iprop(owesB (F := F) d ∗ (owesB (F := F) d -∗ (K (F := F)).tcSt EH d 1)) := by
  unfold SparseCore.Cfg.tcSt owesB Pipeline.owesWithin
  rw [(K (F := F)).Otc_end d (le_refl 1)]
  iintro ⟨⟨%W, %hW, HO⟩, Hr⟩
  isplitl [HO]
  · iexists W
    isplitr
    · ipureintro; exact fun p hp => hW p hp
    · iexact HO
  iintro ⟨%W', %hW', HO⟩
  isplitl [HO]
  · iexists W'
    isplitr
    · ipureintro; exact fun p hp => hW' hp
    · iexact HO
  iexact Hr

/-- What @main leaves the claim: the core's unscoped buffers at the end valuation. -/
abbrev FIN (d : Dev nD) : sProp 𝕄 := held (T d) ucRefs (V4 m d)

/-- The ghost state of the one pipeline. -/
theorem G_eq (d : Dev nD) : G (F := F) d = iprop(Pipeline.cellsGhost (nD := nD) (τ := τ) cfgs EP 0 d ∗ Pipeline.toksInit cfgs EP 0 d) := by
  unfold G
  rw [bigSep_univ_of_subsingleton (0 : Fin 1), bigSep_univ_of_subsingleton (0 : Fin 1)]

/-- The TensorCore call: from the buffers at `V2`, to the buffers with the stored value. -/
theorem region_wp [∀ e, Nonempty (Elt F e)] (d : Dev nD) (Q : PUnit → sProp 𝕄) :
    iprop((iprop(boundary (T d) ∗ held (T d) ucRefs (left (V2 m) d) ∗ owesB (F := F) d) -∗ Q ⟨⟩)
      ∗ boundary (T d) ∗ held (T d) ucRefs (V2 m d) ∗ owesB (F := F) d ∗ levAts (K (F := F)).L (K (F := F)).lev ∗ G (F := F) d)
    ⊢ wp frame (wpE ((K (F := F)).defs (D (F := F))) 𝒱 (T d) none) Set.univ
        (Prog.lift (.customCall (SparseCore.inner (Pipeline.entry 0)) ())) Q := by
  have h : iprop((iprop(boundary (T d) ∗ unscopedBufs d (fun b => left (V2 m) d (Proc.devRef .tc b)) ∗ owesB (F := F) d)
        -∗ wp frame (wpE (D (F := F)) 𝒱 (T d) none) Set.univ (.ret ⟨⟩) Q)
      ∗ boundary (T d) ∗ iprop(unscopedBufs d (fun b => V2 m d (Proc.devRef .tc b)) ∗ owesB (F := F) d)
      ∗ levAts (K (F := F)).L (K (F := F)).lev ∗ Pipeline.cellsGhost cfgs EP 0 d ∗ Pipeline.toksInit cfgs EP 0 d)
      ⊢ wp frame (wpE (D (F := F)) 𝒱 (T d) none) Set.univ (.op (.customCall (Pipeline.entry 0) ()) .ret) Q :=
    Pipeline.RegionSeg.wp (pcfgs (F := F)) adm (pdats (V2 m)) none cellOf_inj EP defs₀ 𝒱₀ (K (F := F)).L (K (F := F)).lev
      (reg (V2 m)) d none (fun u hu => nomatch hu) .ret Q
  rw [← unscopedBufs_held, ← unscopedBufs_held, G_eq]
  iintro ⟨Hk, Hb, Hh, HO, Hl, Hg, Ht⟩
  iapply ((K (F := F)).wp_liftProg (D (F := F)) 𝒱 (T d) Set.univ none
    (.op (.customCall (Pipeline.entry 0) ()) .ret) Q)
  iapply h
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_V0, held_V0, main_eq, wp_bind]
  iintro ⟨#Hctx, Hst, ⟨Hb, ⟨Hop, Hrest⟩, Hts, -⟩, HG⟩
  iapply ((K (F := F)).wp_run (D (F := F)) 𝒱 (EH := EH) (P := P m) κ d 0) $$ [Hst Hop Hb Hrest Hts HG]
  isplitr; · iexact Hctx
  isplitl [Hst]; · iexact Hst
  isplitl [Hop]
  · rw [st0_eq]; iexact Hop
  iintro ⟨Hst, Hdn⟩
  ihave Hdn' := (Entails.of_eq (dn0_eq m d)) $$ Hdn
  ihave Hh := (Entails.of_eq (held_V1 m d).symm) $$ [Hdn' Hrest]
  · isplitl [Hdn'] <;> iassumption
  iapply (StableHlo.wp_seq 𝒱 none Set.univ d ucRefs _ (ops (F := F)) ops_sub ops_fresh (V1 m d)) $$ [Hb Hh]
  · isplitl [Hb] <;> iassumption
  iintro ⟨Hb, Hh⟩
  rw [wp_bind]
  ihave Hst' := (show (K (F := F)).tcSt EH d ((0 : Fin 1).val + 1) ⊢ _ from tcSt_open d) $$ Hst
  icases Hst' with ⟨HO, Hback⟩
  ihave Hl := (SparseCore.Cfg.ctx_levAts κ) $$ Hctx
  iapply (region_wp m d)
  isplitl [Hback Hts]
  · iintro ⟨Hb, Hh, HO⟩
    rw [show (StableHlo.seq [opR (F := F)] : Prog (TpuEff nD τ sig (Elt F) (SparseCore.Sig (ΛP (F := F)) 1) .tc) PUnit) = (StableHlo.seq [opR (F := F)] >>= pure) from (bind_pure _).symm]
    iapply (StableHlo.wp_seq 𝒱 none Set.univ d ucRefs _ [opR (F := F)] opR_sub opR_fresh (left (V2 m) d)) $$ [Hb Hh]
    · isplitl [Hb] <;> iassumption
    iintro ⟨Hb, Hh⟩
    rw [wp_pure]; imodintro
    isplitl [Hback HO]
    · iapply Hback; iexact HO
    isplitl [Hh]; · iexact Hh
    isplitl [Hb] <;> iassumption
  isplitl [Hb]; · iexact Hb
  isplitl [Hh]; · iexact Hh
  isplitl [HO]; · iexact HO
  isplitl [Hl]; · iexact Hl
  iexact HG

/-! ## The final memory -/

/-- What the final memory satisfies: every unscoped buffer of the core at the end valuation. -/
def fq (d : Dev nD) (s' : Phys nD τ sig (Elt F)) : Prop := ∀ b ∈ ucRefs, s'.mem.mem (d, b) = V4 m d b

/-- The program's end state gives the final contents of every buffer that it uses. -/
theorem hfin (d : Dev nD) (s' : Phys nD τ sig (Elt F)) : iprop(FIN m d ∗ SI s') ⊢ (⌜fq m d s'⌝ : sProp 𝕄) := by
  unfold FIN held
  iintro ⟨Hx, HSI⟩
  iapply (SI_pointsTo_bufs_agree (st := s') (c := d) (qs := fun _ => fullShare) (F := V4 m d) ucRefs)
  isplitl [HSI]; · iexact HSI
  iexact Hx

/-- What a run ends at: the unscoped buffers at the end valuation, every counter at zero. -/
def QC : PUnit × MemSt nD τ sig (Elt F) → Prop := fun r => (∀ c : Dev nD, ∀ b ∈ ucRefs, r.2.mem (c, b) = V4 m c b) ∧ r.2.sem = fun _ => 0

/-- The whole program's run from a launch memory whose edge list names nodes. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Frames.lean ====
/-
  The frames: what the preconditions say of the edge list, and the program's runs at the bit-exact and at the ideal
  values, with the arguments unchanged.
-/
module

public import proofs.«01_k».proof.Proof.Main
public import proofs.«01_k».proof.Proof.Gen.Pre_inputs_ok
public import proofs.«01_k».proof.Proof.Gen.Kernel
public import proofs.«01_k».proof.Proof.Gen.ReferenceIdeal.Run
public import Idealize.ShloMosaic.Lib.ReduceAll

@[expose] public section

set_option maxRecDepth 16384

noncomputable section

namespace Cert.Proof.Run

open Cert.KernelIdeal Cert.KernelIdeal.Gen

open Idealize.ShloMosaic Idealize.ShloMosaic.TcCoe
open Idealize.SL.Sem

/-! ## The arguments along the run -/

section
variable {F : FTy → Type} [FloatOps F]
variable (m : (ℓ : Loc nD τ sig) → Buf (Elt F) ℓ)

/-- The buffers that the host operations write. -/
theorem ops_writes : (ops (F := F)).Forall fun op => op.writes ⊆ (([main_v1, main_v2, main_v3, main_v4, main_v5, main_v6, main_v7, main_v8, main_v9,
    main_v10, main_v11, main_v12, main_v13, main_v14] : List (Ref sig .tc)).map (Proc.devRef (τ := τ) .tc)).toFinset :=
  StableHlo.forall_writes_sub_of_map rfl
/-- The final reshape writes only the program's result. -/
theorem opR_writes : [opR (F := F)].Forall fun op => op.writes ⊆ (([main_v16] : List (Ref sig .tc)).map (Proc.devRef (τ := τ) .tc)).toFinset :=
  StableHlo.forall_writes_sub_of_map rfl

/-- A buffer that neither the host operations nor the calls write ends at its launch contents. -/
theorem V4_keep (d : Dev nD) (r : Ref sig .tc)
    (h : r ∉ ([main_v0, main_v1, main_v2, main_v3, main_v4, main_v5, main_v6, main_v7, main_v8, main_v9, main_v10, main_v11, main_v12, main_v13,
      main_v14, main_v15, main_v16] : List (Ref sig .tc))) :
    V4 m d (Proc.devRef .tc r) = m (d, Proc.devRef .tc r) := by
  unfold V4
  rw [StableHlo.after_of_writes_sub _ _ opR_writes (fun h' => h (by simp only [List.mem_cons] at h' ⊢; tauto)),
    left_ne _ _ _ (fun h' => h (by rw [h']; decide))]
  unfold V2
  rw [StableHlo.after_of_writes_sub _ _ ops_writes (fun h' => h (by simp only [List.mem_cons] at h' ⊢; tauto))]
  unfold V1
  rw [Function.update_of_ne (fun e => h (by rw [Proc.devRef_injective _ e]; decide))]
  rfl

/-- The arguments end unchanged. -/
theorem args_keep (r : PUnit × MemSt nD τ sig (Elt F)) (h : ∀ c : Dev nD, ∀ b ∈ ucRefs, r.2.mem (c, b) = V4 m c b) (c : Dev nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15) :=
  ⟨(h c _ (mem_uc main_arg0 rfl)).trans (V4_keep m c main_arg0 (by decide)),
      (h c _ (mem_uc main_arg1 rfl)).trans (V4_keep m c main_arg1 (by decide)),
      (h c _ (mem_uc main_arg2 rfl)).trans (V4_keep m c main_arg2 (by decide)),
      (h c _ (mem_uc main_arg3 rfl)).trans (V4_keep m c main_arg3 (by decide)),
      (h c _ (mem_uc main_arg4 rfl)).trans (V4_keep m c main_arg4 (by decide)),
      (h c _ (mem_uc main_arg5 rfl)).trans (V4_keep m c main_arg5 (by decide)),
      (h c _ (mem_uc main_arg6 rfl)).trans (V4_keep m c main_arg6 (by decide)),
      (h c _ (mem_uc main_arg7 rfl)).trans (V4_keep m c main_arg7 (by decide)),
      (h c _ (mem_uc main_arg8 rfl)).trans (V4_keep m c main_arg8 (by decide)),
      (h c _ (mem_uc main_arg9 rfl)).trans (V4_keep m c main_arg9 (by decide)),
      (h c _ (mem_uc main_arg10 rfl)).trans (V4_keep m c main_arg10 (by decide)),
      (h c _ (mem_uc main_arg11 rfl)).trans (V4_keep m c main_arg11 (by decide)),
      (h c _ (mem_uc main_arg12 rfl)).trans (V4_keep m c main_arg12 (by decide)),
      (h c _ (mem_uc main_arg13 rfl)).trans (V4_keep m c main_arg13 (by decide)),
      (h c _ (mem_uc main_arg14 rfl)).trans (V4_keep m c main_arg14 (by decide)),
      (h c _ (mem_uc main_arg15 rfl)).trans (V4_keep m c main_arg15 (by decide))⟩

end

/-! ## The preconditions -/

/-- The conjunction of two truth values as words is the word of their conjunction. -/
theorem andi_ofBool (p q : Bool) : IntOp.andi (BitVec.ofBool p) (BitVec.ofBool q) = BitVec.ofBool (p && q) := by
  cases p <;> cases q <;> decide

/-- A truth value's word is one exactly when it is true. -/
theorem ofBool_eq_one (p : Bool) : (BitVec.ofBool p = 1#1) ↔ p = true := by cases p <;> decide

/-- The conjunction of two one-bit words is one exactly when both are. -/
theorem andi_one (p q : BitVec 1) (h : IntOp.andi p q = 1#1) : p = 1#1 ∧ q = 1#1 := by
  revert p q; decide

/-- A word that is not negative and below 68 as a signed word is below 68. -/
theorem lt_of_cmp (v : BitVec 32) (e : IntOp.andi (IntOp.cmpi .sge v 0#32) (IntOp.cmpi .slt v 68#32) = 1#1) : v.toNat < 68 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_inputs_ok.S_.Idx := ⟨fun a b => funext fun i => i.elim0⟩

/-- The one index of a scalar array. -/
abbrev i0 : Cert.Pre_inputs_ok.S_.Idx := fun a => a.elim0

/-- The edge list's precondition, at any float values: every edge names two of the 68 nodes. -/
theorem ok_of_pre {F : FTy → Type} [FloatOps F] (m : (ℓ : Loc nD τ sig) → Buf (Elt F) ℓ)
    (h : ∀ c : Dev nD, (Cert.Pre_inputs_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = fun _ => 1#1) :
    PreOK m := by
  intro d x
  have e := congrFun (h d) i0
  simp only [Cert.Pre_inputs_ok.fn] at e
  have e' := Host.reduce_andi_all _ _ _ _ i0 e x
  simp only [andi, cmpi, broadcastInDim, constantI] at e'
  exact lt_of_cmp _ e'

/-! ## The frames -/

/-- The two programs' body tables, read at the bit-exact values, are one table: they agree at every processor and label. -/
theorem defs₀_eq : (Cert.Kernel.defs₀ (F := Bits)) = Cert.KernelIdeal.defs₀ (F := Bits) := by
  funext p ℓ a
  match p, ℓ, a with
  | .scVector c s, ⟨0, _⟩, _ => rfl
  | .scVector c s, ⟨1, _⟩, _ => rfl
  | .tc, ⟨0, _⟩, _ => rfl
  | .tc, ⟨1, _⟩, _ => rfl
  | .scScalar c, ⟨0, _⟩, _ => rfl
  | .scScalar c, ⟨1, _⟩, _ => rfl

/-- So are the whole tables of bodies. -/
theorem defs_eq : (Cert.Kernel.defs (F := Bits)) = Cert.KernelIdeal.defs (F := Bits) := by
  unfold Cert.Kernel.defs Cert.KernelIdeal.defs
  exact congrArg (fun d => (Cert.KernelIdeal.sc (F := Bits)).defs (Pipeline.defs Cert.KernelIdeal.pcfgs d)) defs₀_eq

set_option cleanup.letToHave false in
set_option maxHeartbeats 2000000 in
/-- The kernel's frame at the bit-exact values. -/
theorem frame_kernel : Cert.quiescent_Kernel := fun m ρ hpre =>
  have h := (θ_run (Cert.KernelIdeal.defs (F := Bits)) _ _).mono
    (fun (r : PUnit × MemSt nD τ sig (Elt Bits)) h => (⟨fun c => args_keep m r h.1 c, h.2⟩ : (∀ c : Dev nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) ∧ r.2.sem = fun _ => 0))
    (run_main (F := Bits) m ρ (ok_of_pre m hpre))
  (congrArg (fun d => θ_run d (Cert.KernelIdeal.threads (F := Bits)) ⟨m, fun _ => 0, ρ⟩ fun (r : PUnit × MemSt nD τ sig (Elt Bits)) =>
    (∀ c : Dev nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) ∧ r.2.sem = fun _ => 0) defs_eq).mpr h

/-- The kernel's frame at the ideal values. -/
theorem frame_ideal : Cert.quiescent_KernelIdeal := fun m ρ hpre =>
  (θ_run Cert.KernelIdeal.defs _ _).mono (fun r h => ⟨fun c => args_keep m r h.1 c, h.2⟩) (run_main (F := Ideal) m ρ (ok_of_pre m hpre))

/-- The reference's frame: a straight line of host operations that declares no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Run

end
-- ==== Proof.FramesFinite.lean ====
/-
  The frames under the stronger precondition, which also bounds the features and the first layer's edge weights.
-/
module

public import proofs.«01_k».proof.Proof.Frames
public import proofs.«01_k».proof.Proof.Gen.Pre_inputs_finite

@[expose] public section

set_option maxRecDepth 16384

noncomputable section

namespace Cert.Proof.Run

open Cert.KernelIdeal Cert.KernelIdeal.Gen

open Idealize.ShloMosaic Idealize.ShloMosaic.TcCoe
open Idealize.SL.Sem

/-- The stronger precondition says the same of the edge list. -/
theorem ok_of_pre_finite {F : FTy → Type} [FloatOps F] (m : (ℓ : Loc nD τ sig) → Buf (Elt F) ℓ)
    (h : ∀ c : Dev nD, (Cert.Pre_inputs_finite.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = fun _ => 1#1) :
    PreOK m := by
  intro d x
  have e := congrFun (h d) i0
  simp only [Cert.Pre_inputs_finite.fn, andi] at e
  have e' := Host.reduce_andi_all _ _ _ _ i0 (andi_one _ _ (andi_one _ _ e).1).1 x
  simp only [andi, cmpi, broadcastInDim, constantI] at e'
  exact lt_of_cmp _ e'

/-- The same under the stronger precondition. -/
theorem frame_ideal_finite : Cert.quiescent_KernelIdeal_pre_inputs_finite := fun m ρ hpre =>
  (θ_run Cert.KernelIdeal.defs _ _).mono (fun r h => ⟨fun c => args_keep m r h.1 c, h.2⟩) (run_main (F := Ideal) m ρ (ok_of_pre_finite m hpre))

/-- The same under the stronger precondition. -/
theorem frame_ref_finite : Cert.quiescent_ReferenceIdeal_pre_inputs_finite := fun m ρ _ => frame_ref m ρ trivial

end Cert.Proof.Run

end
-- ==== Proof.Math.lean ====
module

public import proofs.«01_k».proof.Proof.Setup

@[expose] public section

/-!
# The algebra of one layer over the extended reals

A graph convolution may sum the neighbours' rows first and multiply by the weights afterwards, or multiply every row by
the weights first and mix the products by the number of edges between each pair of nodes.
-/

namespace Cert.Proof.Run

/-- A sum of terms that are not negative times a factor is the sum of the products. -/
theorem sum_mul_nonneg {ι : Type} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha,
      EReal.right_distrib_of_nonneg (hf a) (Finset.sum_nonneg fun i _ => hf i), ih]

/-- A sum of reals, seen among the extended reals. -/
theorem sum_coe {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A value is finite when it is neither of the two infinities. -/
def IsFin (x : EReal) : Prop := x ≠ ⊤ ∧ x ≠ ⊥

/-- A sum of finite terms times a finite factor is the sum of the products. -/
theorem sum_mul_finite {ι : Type} (s : Finset ι) (f : ι → EReal) (hf : ∀ i, IsFin (f i)) (w : EReal) (hw : IsFin w) :
    (∑ i ∈ s, f i) * w = ∑ i ∈ s, f i * w := by
  have e : ∀ i, f i = ((f i).toReal : EReal) := fun i => (EReal.coe_toReal (hf i).1 (hf i).2).symm
  have ew : w = (w.toReal : EReal) := (EReal.coe_toReal hw.1 hw.2).symm
  generalize hg : (fun i => (f i).toReal) = g
  have e' : ∀ i, f i = (g i : EReal) := fun i => by rw [← hg]; exact e i
  rw [ew]
  generalize w.toReal = r
  simp only [e']
  rw [sum_coe, ← EReal.coe_mul, Finset.sum_mul, ← sum_coe]
  exact Finset.sum_congr rfl fun i _ => EReal.coe_mul _ _

/-- How many edges run from node `j` to node `n`. -/
def cnt (dst src : Fin 544 → Fin 68) (n j : Fin 68) : ℕ :=
  (Finset.univ.filter fun e : Fin 544 => dst e = n ∧ src e = j).card

/-- Summing a row's value over the edges into `n` is summing it over the nodes, each as often as an edge runs from it. -/
theorem edges_by_source (dst src : Fin 544 → Fin 68) (z : Fin 68 → EReal) (n : Fin 68) :
    (∑ e ∈ Finset.univ.filter (fun e : Fin 544 => dst e = n), z (src e)) = ∑ j, (cnt dst src n j : EReal) * z j := by
  rw [← Finset.sum_fiberwise (Finset.univ.filter fun e : Fin 544 => dst e = n) src]
  refine Finset.sum_congr rfl fun j _ => ?_
  rw [Finset.sum_congr rfl (g := fun _ => z j) fun e he => by rw [(Finset.mem_filter.1 he).2], Finset.sum_const,
    Finset.filter_filter, EReal.nsmul_eq_mul]
  rfl

/-- One layer as the definition has it: the neighbours' rows are summed, the sum meets the weights, the node's own row meets
its own weights, both biases are added, and what is negative becomes zero. -/
noncomputable def layer {K : ℕ} (dst src : Fin 544 → Fin 68) (h : Fin 68 → Fin K → EReal) (W Wo : Fin 128 → Fin K → EReal)
    (b bo : Fin 128 → EReal) (n : Fin 68) (c : Fin 128) : EReal :=
  max ((((∑ k, (∑ e ∈ Finset.univ.filter (fun e : Fin 544 => dst e = n), h (src e) k) * W c k) + b c)
    + ∑ k, h n k * Wo c k) + bo c) 0

/-- The same layer with the rows multiplied by the weights first and the products mixed by the edge counts. -/
noncomputable def mixed {K : ℕ} (A : Fin 68 → Fin 68 → EReal) (h : Fin 68 → Fin K → EReal) (W Wo : Fin 128 → Fin K → EReal)
    (b : Fin 128 → EReal) (n : Fin 68) (c : Fin 128) : EReal :=
  max (((∑ j, A n j * ∑ k, h j k * W c k) + ∑ k, h n k * Wo c k) + b c) 0

/-- The two orders agree wherever the neighbour sums distribute over the weights. -/
theorem mixed_eq {K : ℕ} (dst src : Fin 544 → Fin 68) (h : Fin 68 → Fin K → EReal) (W Wo : Fin 128 → Fin K → EReal)
    (b bo : Fin 128 → EReal)
    (hd : ∀ (s : Finset (Fin 544)) c k, (∑ e ∈ s, h (src e) k) * W c k = ∑ e ∈ s, h (src e) k * W c k) :
    mixed (fun n j => (cnt dst src n j : EReal)) h W Wo (fun c => b c + bo c) = layer dst src h W Wo b bo := by
  funext n c
  have key : (∑ k, (∑ e ∈ Finset.univ.filter (fun e : Fin 544 => dst e = n), h (src e) k) * W c k)
      = ∑ j, (cnt dst src n j : EReal) * ∑ k, h j k * W c k := by
    simp only [hd]
    rw [Finset.sum_comm, edges_by_source dst src (fun j => ∑ k, h j k * W c k)]
  unfold mixed layer
  rw [key]
  refine congrArg (fun t => max t 0) ?_
  show _ + _ + (b c + bo c) = _
  generalize (∑ k, h n k * Wo c k) = q
  generalize (∑ j, (cnt dst src n j : EReal) * ∑ k, h j k * W c k) = p
  rw [← add_assoc, add_right_comm p q]

/-- A layer's values are not negative. -/
theorem layer_nonneg {K : ℕ} (dst src : Fin 544 → Fin 68) (h : Fin 68 → Fin K → EReal) (W Wo : Fin 128 → Fin K → EReal)
    (b bo : Fin 128 → EReal) (n : Fin 68) (c : Fin 128) : 0 ≤ layer dst src h W Wo b bo n c :=
  le_max_right _ _

end Cert.Proof.Run

end
-- ==== Proof.RefValue.lean ====
/-
  The reference's result as plain sums: the gathers and the scatters at one element, the three layers, the pooling.
-/
module

public import proofs.«01_k».proof.Proof.Math
public import proofs.«01_k».proof.Proof.Gen.ReferenceIdeal.Read
public import Idealize.ShloMosaic.Lib.Routing.Ops
public import Idealize.ShloMosaic.Lib.Routing.OpsPair

@[expose] public section

noncomputable section

namespace Cert.Proof.Run

open Cert.ReferenceIdeal Cert.ReferenceIdeal.Gen Cert.ReferenceIdeal.Read
open Idealize.ShloMosaic Idealize.ShloMosaic.ValueIdx

/-- The source node of edge `e`. -/
def srcF (ei : (⟨S2x544, .i32⟩ : BufTy).Contents (Elt Ideal)) (e : Fin 544) : Fin 68 := Fin.ofNat 68 (ei (ix2 (0 : Fin 2) e)).toNat

/-- The node that edge `e` runs to. -/
def dstF (ei : (⟨S2x544, .i32⟩ : BufTy).Contents (Elt Ideal)) (e : Fin 544) : Fin 68 := Fin.ofNat 68 (ei (ix2 (1 : Fin 2) e)).toNat

/-- The window of an update begins at the row its index names. -/
theorem scatter2_start0 (e : Fin 544) (k : Fin 2) (idx : IVec S544x1 32) :
    (scatter_S68x2_S544x1_S544x2_1_0_0_1.start (ix2 e k) idx 0) = (idx (ix2 e (0 : Fin 1))).toInt := by
  unfold ScatterDims.start
  rw [dif_pos (by decide)]
  exact congrArg (fun t => (idx t).toInt) (funext fun b => match b with | ⟨0, _⟩ => rfl | ⟨1, _⟩ => rfl)

/-- The window begins at column zero. -/
theorem scatter2_start1 (e : Fin 544) (k : Fin 2) (idx : IVec S544x1 32) :
    (scatter_S68x2_S544x1_S544x2_1_0_0_1.start (ix2 e k) idx 1) = 0 := by
  unfold ScatterDims.start
  rw [dif_neg (by decide)]

/-- An update's row offset within its window is zero. -/
theorem scatter2_window0 (e : Fin 544) (k : Fin 2) :
    (scatter_S68x2_S544x1_S544x2_1_0_0_1.window (ix2 e k) 0) = 0 := by
  unfold ScatterDims.window
  rw [dif_neg (by decide)]

/-- An update's column is its column within the window. -/
theorem scatter2_window1 (e : Fin 544) (k : Fin 2) :
    (scatter_S68x2_S544x1_S544x2_1_0_0_1.window (ix2 e k) 1) = k.val := by
  unfold ScatterDims.window
  rw [dif_pos (by decide)]
  rfl

/-- The window of an update begins at the row its index names. -/
theorem scatter128_start0 (e : Fin 544) (k : Fin 128) (idx : IVec S544x1 32) :
    (scatter_S68x128_S544x1_S544x128_1_0_0_1.start (ix2 e k) idx 0) = (idx (ix2 e (0 : Fin 1))).toInt := by
  unfold ScatterDims.start
  rw [dif_pos (by decide)]
  exact congrArg (fun t => (idx t).toInt) (funext fun b => match b with | ⟨0, _⟩ => rfl | ⟨1, _⟩ => rfl)

/-- The window begins at column zero. -/
theorem scatter128_start1 (e : Fin 544) (k : Fin 128) (idx : IVec S544x1 32) :
    (scatter_S68x128_S544x1_S544x128_1_0_0_1.start (ix2 e k) idx 1) = 0 := by
  unfold ScatterDims.start
  rw [dif_neg (by decide)]

/-- An update's row offset within its window is zero. -/
theorem scatter128_window0 (e : Fin 544) (k : Fin 128) :
    (scatter_S68x128_S544x1_S544x128_1_0_0_1.window (ix2 e k) 0) = 0 := by
  unfold ScatterDims.window
  rw [dif_neg (by decide)]

/-- An update's column is its column within the window. -/
theorem scatter128_window1 (e : Fin 544) (k : Fin 128) :
    (scatter_S68x128_S544x1_S544x128_1_0_0_1.window (ix2 e k) 1) = k.val := by
  unfold ScatterDims.window
  rw [dif_pos (by decide)]
  rfl

/-- A scatter that adds, read at row `n` and column `k`: what was there, and column `k` of every update whose index is `n`. -/
theorem scatter_rows {K : ℕ} (d : ScatterDims (Routing.shape2 68 K) (Routing.shape2 544 1) (Routing.shape2 544 K))
    (x : FVec Ideal (Routing.shape2 68 K) .f32) (idx : IVec (Routing.shape2 544 1) 32) (upd : FVec Ideal (Routing.shape2 544 K) .f32)
    (dst : Fin 544 → Fin 68)
    (h0 : ∀ e k, d.start (ix2 e k) idx 0 = (idx (ix2 e (0 : Fin 1))).toInt) (h1 : ∀ e k, d.start (ix2 e k) idx 1 = 0)
    (w0 : ∀ e k, d.window (ix2 e k) 0 = 0) (w1 : ∀ e (k : Fin K), d.window (ix2 e k) 1 = k.val)
    (hidx : ∀ e, (idx (ix2 e (0 : Fin 1))).toInt = ((dst e).val : Int)) (n : Fin 68) (k : Fin K) :
    Host.scatterAdd d x idx upd (ix2 n k)
      = x (ix2 n k) + ∑ e ∈ Finset.univ.filter (fun e : Fin 544 => dst e = n), upd (ix2 e k) := by
  have lands : ∀ (e : Fin 544) (k' : Fin K), d.resultIdx? (ix2 e k') idx = some (ix2 n k) ↔ dst e = n ∧ k' = k := by
    intro e k'
    rw [Routing.resultIdx?_ix2, h0, h1, w0, w1, hidx, Fin.ext_iff, Fin.ext_iff]
    omega
  show x (ix2 n k) + ∑ j ∈ Finset.univ.filter (fun j => d.resultIdx? j idx = some (ix2 n k)), upd j = _
  refine congrArg (x (ix2 n k) + ·) ?_
  refine Finset.sum_nbij' (fun j => (j 0 : Fin 544)) (fun e => ix2 e k) ?_ ?_ ?_ ?_ ?_
  · intro j hj
    have hj' := (Finset.mem_filter.1 hj).2
    rw [eq_ix2 j] at hj'
    exact Finset.mem_filter.2 ⟨Finset.mem_univ _, ((lands _ _).1 hj').1⟩
  · intro e he
    exact Finset.mem_filter.2 ⟨Finset.mem_univ _, (lands e k).2 ⟨(Finset.mem_filter.1 he).2, rfl⟩⟩
  · intro j hj
    have hj' := (Finset.mem_filter.1 hj).2
    rw [eq_ix2 j] at hj'
    have e := ((lands _ _).1 hj').2
    exact ((eq_ix2 j).trans (congrArg (fun t => ix2 (j 0 : Fin 544) t) e)).symm
  · intro e he
    rfl
  · intro j hj
    have hj' := (Finset.mem_filter.1 hj).2
    rw [eq_ix2 j] at hj'
    have e := ((lands _ _).1 hj').2
    exact congrArg upd ((eq_ix2 j).trans (congrArg (fun t => ix2 (j 0 : Fin 544) t) e))

/-- Every word of the edge list is a node's number. -/
def EdgesOK (ei : (⟨S2x544, .i32⟩ : BufTy).Contents (Elt Ideal)) : Prop := ∀ i, (ei i).toNat < 68

variable {ei : (⟨S2x544, .i32⟩ : BufTy).Contents (Elt Ideal)}

/-- A node's number is its word. -/
theorem srcF_val (h : EdgesOK ei) (e : Fin 544) : (srcF ei e).val = (ei (ix2 (0 : Fin 2) e)).toNat := Nat.mod_eq_of_lt (h _)
/-- A node's number is its word. -/
theorem dstF_val (h : EdgesOK ei) (e : Fin 544) : (dstF ei e).val = (ei (ix2 (1 : Fin 2) e)).toNat := Nat.mod_eq_of_lt (h _)

/-- The word of a node's number. -/
theorem src_word (h : EdgesOK ei) (e : Fin 544) : ei (ix2 (0 : Fin 2) e) = BitVec.ofNat 32 (srcF ei e).val := by
  rw [srcF_val h]; simp

/-- The destination's word, read signed, is the node's number. -/
theorem dst_int (h : EdgesOK ei) (e : Fin 544) : (ei (ix2 (1 : Fin 2) e)).toInt = ((dstF ei e).val : Int) := by
  rw [dstF_val h, BitVec.toInt_eq_toNat_of_lt]
  have := h (ix2 (1 : Fin 2) e)
  omega

/-- The wrapped source index of the first gather. -/
theorem v7_at (h : EdgesOK ei) (e : Fin 544) : val_main_v7 (F := Ideal) ei (ix2 e (0 : Fin 1)) = BitVec.ofNat 32 (srcF ei e).val := by
  rw [val_main_v7_apply, val_main_v6_apply, val_main_v3_apply, val_main_v2_apply, val_main_c_apply, val_main_v1_apply, val_main_v0_apply]
  rw [Routing.wrap_of_lt _ _ (lt_trans (h _) (by decide))]
  rw [← src_word h]
  exact congrArg ei (funext fun a => Fin.ext (match a with | ⟨0, _⟩ => rfl | ⟨1, _⟩ => Nat.mod_eq_of_lt e.isLt))

/-- The wrapped source index of the second gather. -/
theorem v33_at (h : EdgesOK ei) (e : Fin 544) : val_main_v33 (F := Ideal) ei (ix2 e (0 : Fin 1)) = BitVec.ofNat 32 (srcF ei e).val := v7_at h e
/-- The wrapped source index of the third gather. -/
theorem v59_at (h : EdgesOK ei) (e : Fin 544) : val_main_v59 (F := Ideal) ei (ix2 e (0 : Fin 1)) = BitVec.ofNat 32 (srcF ei e).val := v7_at h e

/-- The index of the first scatter. -/
theorem v12_at (h : EdgesOK ei) (e : Fin 544) : (val_main_v12 (F := Ideal) ei (ix2 e (0 : Fin 1))).toInt = ((dstF ei e).val : Int) := by
  rw [val_main_v12_apply, val_main_v10_apply, val_main_v9_apply, ← dst_int h]
  exact congrArg (fun t => (ei t).toInt) (funext fun a => Fin.ext (match a with | ⟨0, _⟩ => rfl | ⟨1, _⟩ => Nat.mod_eq_of_lt e.isLt))
/-- The index of the second scatter. -/
theorem v38_at (h : EdgesOK ei) (e : Fin 544) : (val_main_v38 (F := Ideal) ei (ix2 e (0 : Fin 1))).toInt = ((dstF ei e).val : Int) := v12_at h e
/-- The index of the third scatter. -/
theorem v64_at (h : EdgesOK ei) (e : Fin 544) : (val_main_v64 (F := Ideal) ei (ix2 e (0 : Fin 1))).toInt = ((dstF ei e).val : Int) := v12_at h e

/-- A matrix by its two coordinates. -/
def mat {a b : ℕ} (x : (⟨⟨2, ![a, b]⟩, .f32⟩ : BufTy).Contents (Elt Ideal)) (r : Fin a) (c : Fin b) : EReal := x (ix2 r c)
/-- A vector by its coordinate. -/
def vec {a : ℕ} (x : (⟨⟨1, ![a]⟩, .f32⟩ : BufTy).Contents (Elt Ideal)) (r : Fin a) : EReal := x (ix1 r)

variable (x0 : (⟨S68x2, .f32⟩ : BufTy).Contents (Elt Ideal)) (x4 x6 : (⟨S128x2, .f32⟩ : BufTy).Contents (Elt Ideal))
  (x5 x7 x9 x11 x13 x15 : (⟨S128, .f32⟩ : BufTy).Contents (Elt Ideal)) (x8 x10 x12 x14 : (⟨S128x128, .f32⟩ : BufTy).Contents (Elt Ideal))

/-- The nodes' rows after the first layer. -/
def H1 (ei : (⟨S2x544, .i32⟩ : BufTy).Contents (Elt Ideal)) : Fin 68 → Fin 128 → EReal :=
  layer (dstF ei) (srcF ei) (mat x0) (mat x4) (mat x6) (vec x5) (vec x7)
/-- The nodes' rows after the second layer. -/
def H2 (ei : (⟨S2x544, .i32⟩ : BufTy).Contents (Elt Ideal)) : Fin 68 → Fin 128 → EReal :=
  layer (dstF ei) (srcF ei) (H1 x0 x4 x6 x5 x7 ei) (mat x8) (mat x10) (vec x9) (vec x11)
/-- The nodes' rows after the third layer. -/
def H3 (ei : (⟨S2x544, .i32⟩ : BufTy).Contents (Elt Ideal)) : Fin 68 → Fin 128 → EReal :=
  layer (dstF ei) (srcF ei) (H2 x0 x4 x6 x5 x7 x9 x11 x8 x10 ei) (mat x12) (mat x14) (vec x13) (vec x15)

/-- The first layer's neighbour sums. -/
theorem v13_at (h : EdgesOK ei) (n : Fin 68) (k : Fin 2) :
    val_main_v13 (F := Ideal) x0 ei (ix2 n k) = ∑ e ∈ Finset.univ.filter (fun e : Fin 544 => dstF ei e = n), mat x0 (srcF ei e) k := by
  unfold val_main_v13
  rw [scatter_rows scatter_S68x2_S544x1_S544x2_1_0_0_1 _ _ _ (dstF ei) (fun e k => scatter2_start0 e k _) (fun e k => scatter2_start1 e k _)
    scatter2_window0 scatter2_window1 (v12_at h)]
  rw [val_main_v11_apply, val_main_cst_apply, Ideal.ofBits_def, Ideal.ofBits_zero_f32, zero_add]
  refine Finset.sum_congr rfl fun e _ => ?_
  exact Routing.gather_row gather_S68x2_S544x1_S544x2_1_0_n_n_0_1_12 rfl rfl rfl rfl rfl x0 _ e k (srcF ei e) (v7_at h e) (by decide)

/-- The first layer's rows are the reference's. -/
theorem v25_at (h : EdgesOK ei) (n : Fin 68) (c : Fin 128) :
    val_main_v25 (F := Ideal) x0 ei x4 x5 x6 x7 (ix2 n c) = H1 x0 x4 x6 x5 x7 ei n c := by
  rw [val_main_v25_apply, val_main_call0_v0_apply, val_main_call0_cst_apply, val_main_v24_apply, val_main_v21_apply, val_main_v18_apply,
    val_main_v15_apply, val_main_v20_apply, val_main_v17_apply, val_main_v16_apply, val_main_v23_apply, val_main_v22_apply]
  simp only [val_main_v14_apply, val_main_v19_apply, Ideal.addf_def, Ideal.maximumf_def, Ideal.ofBits_def, Ideal.ofBits_zero_f32]
  unfold H1 layer
  have e5 : idx_main_v16 (idx_main_v17 (ix2 n c)) = ix1 c := funext fun a => match a with | ⟨0, _⟩ => rfl
  have e7 : idx_main_v22 (idx_main_v23 (ix2 n c)) = ix1 c := funext fun a => match a with | ⟨0, _⟩ => rfl
  have s1 : ∀ k : Fin 2, val_main_v13 (F := Ideal) x0 ei (lidx_main_v15 (ix2 n c) k) * x4 (idx_main_v14 (ridx_main_v15 (ix2 n c) k))
      = (∑ e ∈ Finset.univ.filter (fun e : Fin 544 => dstF ei e = n), mat x0 (srcF ei e) k) * mat x4 c k := fun k => by
    rw [← v13_at x0 h n k]
    exact congrArg₂ (· * ·) (congrArg _ (funext fun a => match a with | ⟨0, _⟩ => rfl | ⟨1, _⟩ => rfl))
      (congrArg x4 (funext fun a => match a with | ⟨0, _⟩ => rfl | ⟨1, _⟩ => rfl))
  have s2 : ∀ k : Fin 2, x0 (lidx_main_v20 (ix2 n c) k) * x6 (idx_main_v19 (ridx_main_v20 (ix2 n c) k)) = mat x0 n k * mat x6 c k := fun k =>
    congrArg₂ (· * ·) (congrArg x0 (funext fun a => match a with | ⟨0, _⟩ => rfl | ⟨1, _⟩ => rfl))
      (congrArg x6 (funext fun a => match a with | ⟨0, _⟩ => rfl | ⟨1, _⟩ => rfl))
  rw [e5, e7, Finset.sum_congr rfl fun k _ => s1 k, Finset.sum_congr rfl fun k _ => s2 k]
  rfl

/-- The second layer's neighbour sums. -/
theorem v39_at (h : EdgesOK ei) (n : Fin 68) (k : Fin 128) :
    val_main_v39 (F := Ideal) x0 ei x4 x5 x6 x7 (ix2 n k)
      = ∑ e ∈ Finset.univ.filter (fun e : Fin 544 => dstF ei e = n), H1 x0 x4 x6 x5 x7 ei (srcF ei e) k := by
  unfold val_main_v39
  rw [scatter_rows scatter_S68x128_S544x1_S544x128_1_0_0_1 _ _ _ (dstF ei) (fun e k => scatter128_start0 e k _) (fun e k => scatter128_start1 e k _)
    scatter128_window0 scatter128_window1 (v38_at h)]
  rw [val_main_v37_apply, val_main_cst_3_apply, Ideal.ofBits_def, Ideal.ofBits_zero_f32, zero_add]
  refine Finset.sum_congr rfl fun e _ => ?_
  refine (Routing.gather_row gather_S68x128_S544x1_S544x128_1_0_n_n_0_1_1128 rfl rfl rfl rfl rfl _ _ e k (srcF ei e) (v33_at h e) (by decide)).trans ?_
  exact v25_at x0 x4 x6 x5 x7 h _ _

/-- The second layer's rows are the reference's. -/
theorem v51_at (h : EdgesOK ei) (n : Fin 68) (c : Fin 128) :
    val_main_v51 (F := Ideal) x0 ei x4 x5 x6 x7 x8 x9 x10 x11 (ix2 n c) = H2 x0 x4 x6 x5 x7 x9 x11 x8 x10 ei n c := by
  rw [val_main_v51_apply, val_main_call1_v0_apply, val_main_call1_cst_apply, val_main_v50_apply, val_main_v47_apply, val_main_v44_apply,
    val_main_v41_apply, val_main_v46_apply, val_main_v43_apply, val_main_v42_apply, val_main_v49_apply, val_main_v48_apply]
  simp only [val_main_v40_apply, val_main_v45_apply, Ideal.addf_def, Ideal.maximumf_def, Ideal.ofBits_def, Ideal.ofBits_zero_f32]
  unfold H2 layer
  have e5 : idx_main_v42 (idx_main_v43 (ix2 n c)) = ix1 c := funext fun a => match a with | ⟨0, _⟩ => rfl
  have e7 : idx_main_v48 (idx_main_v49 (ix2 n c)) = ix1 c := funext fun a => match a with | ⟨0, _⟩ => rfl
  have s1 : ∀ k : Fin 128, val_main_v39 (F := Ideal) x0 ei x4 x5 x6 x7 (lidx_main_v41 (ix2 n c) k) * x8 (idx_main_v40 (ridx_main_v41 (ix2 n c) k))
      = (∑ e ∈ Finset.univ.filter (fun e : Fin 544 => dstF ei e = n), H1 x0 x4 x6 x5 x7 ei (srcF ei e) k) * mat x8 c k := fun k => by
    rw [← v39_at x0 x4 x6 x5 x7 h n k]
    exact congrArg₂ (· * ·) (congrArg _ (funext fun a => match a with | ⟨0, _⟩ => rfl | ⟨1, _⟩ => rfl))
      (congrArg x8 (funext fun a => match a with | ⟨0, _⟩ => rfl | ⟨1, _⟩ => rfl))
  have s2 : ∀ k : Fin 128, val_main_v25 (F := Ideal) x0 ei x4 x5 x6 x7 (lidx_main_v46 (ix2 n c) k) * x10 (idx_main_v45 (ridx_main_v46 (ix2 n c) k))
      = H1 x0 x4 x6 x5 x7 ei n k * mat x10 c k := fun k => by
    rw [← v25_at x0 x4 x6 x5 x7 h n k]
    exact congrArg₂ (· * ·) (congrArg _ (funext fun a => match a with | ⟨0, _⟩ => rfl | ⟨1, _⟩ => rfl))
      (congrArg x10 (funext fun a => match a with | ⟨0, _⟩ => rfl | ⟨1, _⟩ => rfl))
  rw [e5, e7, Finset.sum_congr rfl fun k _ => s1 k, Finset.sum_congr rfl fun k _ => s2 k]
  rfl

/-- The third layer's neighbour sums. -/
theorem v65_at (h : EdgesOK ei) (n : Fin 68) (k : Fin 128) :
    val_main_v65 (F := Ideal) x0 ei x4 x5 x6 x7 x8 x9 x10 x11 (ix2 n k)
      = ∑ e ∈ Finset.univ.filter (fun e : Fin 544 => dstF ei e = n), H2 x0 x4 x6 x5 x7 x9 x11 x8 x10 ei (srcF ei e) k := by
  unfold val_main_v65
  rw [scatter_rows scatter_S68x128_S544x1_S544x128_1_0_0_1 _ _ _ (dstF ei) (fun e k => scatter128_start0 e k _) (fun e k => scatter128_start1 e k _)
    scatter128_window0 scatter128_window1 (v64_at h)]
  rw [val_main_v63_apply, val_main_cst_6_apply, Ideal.ofBits_def, Ideal.ofBits_zero_f32, zero_add]
  refine Finset.sum_congr rfl fun e _ => ?_
  refine (Routing.gather_row gather_S68x128_S544x1_S544x128_1_0_n_n_0_1_1128 rfl rfl rfl rfl rfl _ _ e k (srcF ei e) (v59_at h e) (by decide)).trans ?_
  exact v51_at x0 x4 x6 x5 x7 x9 x11 x8 x10 h _ _

/-- The third layer's rows are the reference's. -/
theorem v77_at (h : EdgesOK ei) (n : Fin 68) (c : Fin 128) :
    val_main_v77 (F := Ideal) x0 ei x4 x5 x6 x7 x8 x9 x10 x11 x12 x13 x14 x15 (ix2 n c) = H3 x0 x4 x6 x5 x7 x9 x11 x13 x15 x8 x10 x12 x14 ei n c := by
  rw [val_main_v77_apply, val_main_call2_v0_apply, val_main_call2_cst_apply, val_main_v76_apply, val_main_v73_apply, val_main_v70_apply,
    val_main_v67_apply, val_main_v72_apply, val_main_v69_apply, val_main_v68_apply, val_main_v75_apply, val_main_v74_apply]
  simp only [val_main_v66_apply, val_main_v71_apply, Ideal.addf_def, Ideal.maximumf_def, Ideal.ofBits_def, Ideal.ofBits_zero_f32]
  unfold H3 layer
  have e5 : idx_main_v68 (idx_main_v69 (ix2 n c)) = ix1 c := funext fun a => match a with | ⟨0, _⟩ => rfl
  have e7 : idx_main_v74 (idx_main_v75 (ix2 n c)) = ix1 c := funext fun a => match a with | ⟨0, _⟩ => rfl
  have s1 : ∀ k : Fin 128, val_main_v65 (F := Ideal) x0 ei x4 x5 x6 x7 x8 x9 x10 x11 (lidx_main_v67 (ix2 n c) k) * x12 (idx_main_v66 (ridx_main_v67 (ix2 n c) k))
      = (∑ e ∈ Finset.univ.filter (fun e : Fin 544 => dstF ei e = n), H2 x0 x4 x6 x5 x7 x9 x11 x8 x10 ei (srcF ei e) k) * mat x12 c k := fun k => by
    rw [← v65_at x0 x4 x6 x5 x7 x9 x11 x8 x10 h n k]
    exact congrArg₂ (· * ·) (congrArg _ (funext fun a => match a with | ⟨0, _⟩ => rfl | ⟨1, _⟩ => rfl))
      (congrArg x12 (funext fun a => match a with | ⟨0, _⟩ => rfl | ⟨1, _⟩ => rfl))
  have s2 : ∀ k : Fin 128, val_main_v51 (F := Ideal) x0 ei x4 x5 x6 x7 x8 x9 x10 x11 (lidx_main_v72 (ix2 n c) k) * x14 (idx_main_v71 (ridx_main_v72 (ix2 n c) k))
      = H2 x0 x4 x6 x5 x7 x9 x11 x8 x10 ei n k * mat x14 c k := fun k => by
    rw [← v51_at x0 x4 x6 x5 x7 x9 x11 x8 x10 h n k]
    exact congrArg₂ (· * ·) (congrArg _ (funext fun a => match a with | ⟨0, _⟩ => rfl | ⟨1, _⟩ => rfl))
      (congrArg x14 (funext fun a => match a with | ⟨0, _⟩ => rfl | ⟨1, _⟩ => rfl))
  rw [e5, e7, Finset.sum_congr rfl fun k _ => s1 k, Finset.sum_congr rfl fun k _ => s2 k]
  rfl

end Cert.Proof.Run

end
-- ==== Proof.RefPool.lean ====
/-
  The pooling at the end of the reference: the softmax of the assignment scores, and the rows weighted by it.
-/
module

public import proofs.«01_k».proof.Proof.RefValue
public import Idealize.ShloMosaic.Lib.Pointwise

@[expose] public section

noncomputable section

namespace Cert.Proof.Run

open Cert.ReferenceIdeal Cert.ReferenceIdeal.Gen Cert.ReferenceIdeal.Read
open Idealize.ShloMosaic hiding ix1 ix2 ix3 eq_ix1 eq_ix2 eq_ix3
open Idealize.ShloMosaic.ValueIdx

/-- The largest score of node `n`. -/
def peak (s : (⟨S1x68x8, .f32⟩ : BufTy).Contents (Elt Ideal)) (n : Fin 68) : EReal :=
  Finset.univ.fold max (Ideal.ofBits .f32 0xFF800000#32) fun k : Fin 8 => s (ix3 (0 : Fin 1) n k)

/-- The exponential of a score less the node's largest. -/
def lift (s : (⟨S1x68x8, .f32⟩ : BufTy).Contents (Elt Ideal)) (n : Fin 68) (g : Fin 8) : EReal :=
  Ideal.exp (s (ix3 (0 : Fin 1) n g) - peak s n)

/-- Node `n`'s share in cluster `g`. -/
def share (s : (⟨S1x68x8, .f32⟩ : BufTy).Contents (Elt Ideal)) (n : Fin 68) (g : Fin 8) : EReal :=
  Ideal.div (lift s n g) (∑ k, lift s n k)

/-- The clusters' rows: every node's row weighted by its share. -/
def pooled (s : (⟨S1x68x8, .f32⟩ : BufTy).Contents (Elt Ideal)) (h : Fin 68 → Fin 128 → EReal) (g : Fin 8) (c : Fin 128) : EReal :=
  ∑ n, share s n g * h n c

variable (s : (⟨S1x68x8, .f32⟩ : BufTy).Contents (Elt Ideal))

/-- The word of minus infinity is the least extended real. -/
theorem negInf_word : Ideal.ofBits .f32 0xFF800000#32 = ⊥ := by simp [Ideal.ofBits, Ideal.ieee]

/-- The reference's row maximum is the largest score. -/
theorem v81_at (i : S1x68.Idx) : val_main_v81 (F := Ideal) s i = peak s (i 1) := by
  rw [val_main_v81_apply, val_main_v80_apply, val_main_cst_8_apply, Ideal.maximumf_def, Ideal.ofBits_def, negInf_word]
  refine (max_eq_right bot_le).trans ?_
  unfold val_main_v79 peak
  rw [show i = ix2 (0 : Fin 1) (i 1) from funext fun a => match a with | ⟨0, _⟩ => Subsingleton.elim (α := Fin 1) _ _ | ⟨1, _⟩ => rfl]
  simp only [pointwise, val_main_cst_7_apply]
  rfl

/-- The reference's exponentials. -/
theorem v85_at (i : S1x68x8.Idx) : val_main_v85 (F := Ideal) s i = lift s (i 1) (i 2) := by
  rw [val_main_v85_apply, val_main_v84_apply, val_main_v83_apply, val_main_v82_apply, v81_at]
  unfold lift
  have e : i = ix3 (0 : Fin 1) (i 1) (i 2) :=
    funext fun a => match a with | ⟨0, _⟩ => Subsingleton.elim (α := Fin 1) _ _ | ⟨1, _⟩ => rfl | ⟨2, _⟩ => rfl
  exact congrArg (fun t => Ideal.exp (s t - peak s (i 1))) e

/-- The reference's shares. -/
theorem v89_at (i : S1x68x8.Idx) : val_main_v89 (F := Ideal) s i = share s (i 1) (i 2) := by
  rw [val_main_v89_apply, val_main_v88_apply, val_main_v87_apply, val_main_v86_apply, val_main_cst_9_apply, Ideal.hostDivf_def,
    Ideal.ofBits_def, Ideal.ofBits_zero_f32, zero_add, v85_at]
  unfold share
  exact congrArg (Ideal.div _) (Finset.sum_congr rfl fun k _ => v85_at s _)

variable {ei : (⟨S2x544, .i32⟩ : BufTy).Contents (Elt Ideal)}
  (x0 : (⟨S68x2, .f32⟩ : BufTy).Contents (Elt Ideal)) (x4 x6 : (⟨S128x2, .f32⟩ : BufTy).Contents (Elt Ideal))
  (x5 x7 x9 x11 x13 x15 : (⟨S128, .f32⟩ : BufTy).Contents (Elt Ideal)) (x8 x10 x12 x14 : (⟨S128x128, .f32⟩ : BufTy).Contents (Elt Ideal))

/-- The reference's result at one element. -/
theorem v90_at (h : EdgesOK ei) (i : S1x8x128.Idx) :
    val_main_v90 (F := Ideal) x0 ei s x4 x5 x6 x7 x8 x9 x10 x11 x12 x13 x14 x15 i
      = pooled s (H3 x0 x4 x6 x5 x7 x9 x11 x13 x15 x8 x10 x12 x14 ei) (i 1) (i 2) := by
  rw [val_main_v90_apply]
  unfold pooled
  refine Finset.sum_congr rfl fun n _ => ?_
  rw [v89_at, val_main_v78_apply, ← v77_at x0 x4 x6 x5 x7 x9 x11 x13 x15 x8 x10 x12 x14 h n (i 2)]
  refine congrArg₂ (· * ·) rfl (congrArg _ (funext fun a => Fin.ext ?_))
  have h0 : (i 0).val < 1 := (i 0).isLt
  have h2 : (i 2).val < 128 := (i 2).isLt
  have hn := n.isLt
  match a with
  | ⟨0, _⟩ =>
    show (((i 0).val * 68 + n.val) * 128 + (i 2).val) / 128 = n.val
    omega
  | ⟨1, _⟩ =>
    show (((i 0).val * 68 + n.val) * 128 + (i 2).val) % 128 = (i 2).val
    omega

end Cert.Proof.Run

end
-- ==== Proof.KerLayer.lean ====
/-
  What the TensorCore program computes, element by element: its three layers in the mixed order and its pooling.
-/
module

public import proofs.«01_k».proof.Proof.RefPool
public import proofs.«01_k».proof.Proof.Seg

@[expose] public section

noncomputable section

namespace Cert.Proof.Run

open Cert.KernelIdeal Cert.KernelIdeal.Gen
open Idealize.ShloMosaic

/-- The table the layers read: the four partial tables added up. -/
theorem table_at (p : Vec Ideal S4x68x68 .f32) (n j : Fin 68) :
    k1_pay2 (F := Ideal) p (ix2 n j) = ∑ t : Fin 4, p (ix3 t n j) := by
  unfold k1_pay2
  simp only [pointwise]

/-- The first layer, in the mixed order. -/
theorem first_at (v0 : Vec Ideal S4x68x68 .f32) (v3 : Vec Ideal S68x2 .f32) (v6 v12 v19 v25 v34 : Vec Ideal S1x128 .f32) (n : Fin 68) (c : Fin 128) :
    k1_pay3 (F := Ideal) v0 v3 v6 v12 v19 v25 v34 (ix2 n c)
      = mixed (fun n j => k1_pay2 (F := Ideal) v0 (ix2 n j)) (fun n (k : Fin 2) => v3 (ix2 n k))
          (fun c => ![v6 (ix2 (0 : Fin 1) c), v12 (ix2 (0 : Fin 1) c)]) (fun c => ![v19 (ix2 (0 : Fin 1) c), v25 (ix2 (0 : Fin 1) c)])
          (fun c => v34 (ix2 (0 : Fin 1) c)) n c := by
  unfold k1_pay3 mixed
  simp only [pointwise, zero_add, Fin.sum_univ_two, Nat.reduceEqDiff, ↓reduceDIte, Matrix.cons_val_zero, Matrix.cons_val_one, Fin.eta]

/-- The second and third layers, in the mixed order. -/
theorem rest_at (v2 : FVec Ideal S68x68 .f32) (v40 : FVec Ideal S68x128 .f32) (v41 v43 : Vec Ideal S1x128x128 .f32) (v45 : Vec Ideal S1x128 .f32)
    (v47 v49 : Vec Ideal S1x128x128 .f32) (v51 : Vec Ideal S1x128 .f32) (n : Fin 68) (c : Fin 128) :
    k1_pay4 (F := Ideal) v2 v40 v41 v43 v45 v47 v49 v51 (ix2 n c)
      = mixed (fun n j => v2 (ix2 n j))
          (mixed (fun n j => v2 (ix2 n j)) (fun n (k : Fin 128) => v40 (ix2 n k)) (fun c k => v41 (ix3 (0 : Fin 1) c k))
            (fun c k => v43 (ix3 (0 : Fin 1) c k)) (fun c => v45 (ix2 (0 : Fin 1) c)))
          (fun c k => v47 (ix3 (0 : Fin 1) c k)) (fun c k => v49 (ix3 (0 : Fin 1) c k)) (fun c => v51 (ix2 (0 : Fin 1) c)) n c := by
  unfold k1_pay4 mixed
  simp only [pointwise, zero_add]
  rfl

/-- The pooling. -/
theorem pool_at (h : FVec Ideal S68x128 .f32) (s : Vec Ideal S1x68x8 .f32) (g : Fin 8) (c : Fin 128) :
    k1_pay1 (F := Ideal) h (k1_pay5 s) (k1_pay6 s) (ix2 g c) = pooled s (fun n c => h (ix2 n c)) g c := by
  unfold k1_pay1 k1_pay6 k1_pay5
  simp only [pointwise, zero_add]
  rfl

end Cert.Proof.Run

end
-- ==== Proof.Counts.lean ====
/-
  The table of counts over the extended reals: the four partial tables add up to the number of edges between each pair of nodes.
-/
module

public import proofs.«01_k».proof.Proof.RefPool
public import proofs.«01_k».proof.Proof.Seg

@[expose] public section

noncomputable section

namespace Cert.Proof.Run

open Cert.KernelIdeal Cert.KernelIdeal.Gen
open Idealize.ShloMosaic

/-- One, when edge `e` runs from node `j` to node `n`, else zero. -/
def hit (ei : S2x544.Idx → BitVec 32) (n j : Fin 68) (e : ℕ) : ℕ := if n.val = dstN ei e ∧ j.val = srcN ei e then 1 else 0

/-- A tile's table holds how many of its edges run between the two nodes. -/
theorem countsFrom_at (ei : S2x544.Idx → BitVec 32) (e₀ k : ℕ) (n j : Fin 68) :
    countsFrom (F := Ideal) ei e₀ k (ix2 n j) = ((∑ e ∈ Finset.range k, hit ei n j (e₀ + e) : ℕ) : EReal) := by
  induction k with
  | zero => show Ideal.ofBits .f32 0x00000000#32 = _; rw [Ideal.ofBits_zero_f32]; simp
  | succ k ih =>
    rw [Finset.sum_range_succ, Nat.cast_add, ← ih]
    show (if n.val = dstN ei (e₀ + k) ∧ j.val = srcN ei (e₀ + k) then countsFrom (F := Ideal) ei e₀ k (ix2 n j) + Ideal.ofBits .f32 0x3F800000#32
      else countsFrom (F := Ideal) ei e₀ k (ix2 n j)) = _
    unfold hit
    rw [Ideal.ofBits_one_f32]
    split <;> simp

/-- The four tables together count every edge once. -/
theorem parts_sum (ei : (⟨S2x544, .i32⟩ : BufTy).Contents (Elt Ideal)) (h : EdgesOK ei) (n j : Fin 68) :
    ∑ t : Fin 4, parts (F := Ideal) ei (ix3 t n j) = (cnt (dstF ei) (srcF ei) n j : EReal) := by
  have e : ∀ t : Fin 4, parts (F := Ideal) ei (ix3 t n j)
      = ((∑ e ∈ Finset.range (16 * (lo (t.val + 1) - lo t.val)), hit ei n j (16 * lo t.val + e) : ℕ) : EReal) := fun t => by
    rw [← countsFrom_at]
    show tileCounts (F := Ideal) ei t.val (rc (ix3 t n j)) = _
    unfold tileCounts
    exact congrArg _ (funext fun a => match a with | ⟨0, _⟩ => rfl | ⟨1, _⟩ => rfl)
  have total : (∑ e ∈ Finset.range 128, hit ei n j (0 + e)) + (∑ e ∈ Finset.range 144, hit ei n j (128 + e))
      + (∑ e ∈ Finset.range 128, hit ei n j (272 + e)) + (∑ e ∈ Finset.range 144, hit ei n j (400 + e)) = cnt (dstF ei) (srcF ei) n j := by
    simp only [Nat.zero_add]
    rw [← Finset.sum_range_add (hit ei n j) 128 144, ← Finset.sum_range_add (hit ei n j) 272 128, ← Finset.sum_range_add (hit ei n j) 400 144]
    show ∑ e ∈ Finset.range 544, hit ei n j e = _
    rw [Finset.sum_range, cnt, Finset.card_filter]
    refine Finset.sum_congr rfl fun e _ => ?_
    unfold hit
    have ix : ∀ r : Fin 2, edgeIx r e.val = ValueIdx.ix2 r e := fun r => funext fun a => match a with
      | ⟨0, _⟩ => rfl
      | ⟨1, _⟩ => Fin.ext (Nat.mod_eq_of_lt e.isLt)
    refine if_congr ?_ rfl rfl
    rw [Fin.ext_iff, Fin.ext_iff, dstF_val h, srcF_val h, dstN, srcN, ix, ix]
    exact and_congr eq_comm eq_comm
  rw [← total, Finset.sum_congr rfl fun t _ => e t, Fin.sum_univ_four]
  push_cast
  rfl

end Cert.Proof.Run

end
-- ==== Proof.Operands.lean ====
/-
  The operands of the TensorCore call: the stacked square weights and the stacked rows, element by element of the arguments.
-/
module

public import proofs.«01_k».proof.Proof.KerLayer
public import proofs.«01_k».proof.Proof.Counts
public import proofs.«01_k».proof.Proof.Main

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.ShloMosaic.StableHlo (after)

variable (m : (ℓ : Loc nD τ sig) → Buf (Elt Ideal) ℓ)

/-- A buffer that the SparseCore call does not write holds its launch contents after it. -/
theorem V1_arg (d : Dev nD) (r : Ref sig .tc) (h : r ≠ main_v0) : V1 m d (Proc.devRef .tc r) = m (d, Proc.devRef .tc r) :=
  Function.update_of_ne (fun e => h (Proc.devRef_injective _ e)) _ _

section Stack
variable {s t r : Shape} {a : Fin s.rank}

/-- Four pieces laid one after another, piece by piece equal. -/
theorem concat4 {s₀ s₁ s₂ s₃ : Shape} {u₀ v₀ : s₀.Idx → EReal} {u₁ v₁ : s₁.Idx → EReal} {u₂ v₂ : s₂.Idx → EReal} {u₃ v₃ : s₃.Idx → EReal} {h}
    (e₀ : u₀ = v₀) (e₁ : u₁ = v₁) (e₂ : u₂ = v₂) (e₃ : u₃ = v₃) :
    concatenate s a [⟨s₀, u₀⟩, ⟨s₁, u₁⟩, ⟨s₂, u₂⟩, ⟨s₃, u₃⟩] h = concatenate s a [⟨s₀, v₀⟩, ⟨s₁, v₁⟩, ⟨s₂, v₂⟩, ⟨s₃, v₃⟩] h := by
  subst e₀ e₁ e₂ e₃; rfl

/-- Five pieces laid one after another, piece by piece equal. -/
theorem concat5 {s₀ s₁ s₂ s₃ s₄ : Shape} {u₀ v₀ : s₀.Idx → EReal} {u₁ v₁ : s₁.Idx → EReal} {u₂ v₂ : s₂.Idx → EReal} {u₃ v₃ : s₃.Idx → EReal}
    {u₄ v₄ : s₄.Idx → EReal} {h} (e₀ : u₀ = v₀) (e₁ : u₁ = v₁) (e₂ : u₂ = v₂) (e₃ : u₃ = v₃) (e₄ : u₄ = v₄) :
    concatenate s a [⟨s₀, u₀⟩, ⟨s₁, u₁⟩, ⟨s₂, u₂⟩, ⟨s₃, u₃⟩, ⟨s₄, u₄⟩] h
      = concatenate s a [⟨s₀, v₀⟩, ⟨s₁, v₁⟩, ⟨s₂, v₂⟩, ⟨s₃, v₃⟩, ⟨s₄, v₄⟩] h := by
  subst e₀ e₁ e₂ e₃ e₄; rfl

end Stack

/-- The stacked square weights. -/
def stackW (x8 x10 x12 x14 : S128x128.Idx → EReal) : S4x128x128.Idx → EReal :=
  concatenate S4x128x128 0
    [⟨S1x128x128, broadcastInDim S1x128x128 ![1, 2] bcast_S128x128_S1x128x128_1_2 x8⟩, ⟨S1x128x128, broadcastInDim S1x128x128 ![1, 2] bcast_S128x128_S1x128x128_1_2 x10⟩,
      ⟨S1x128x128, broadcastInDim S1x128x128 ![1, 2] bcast_S128x128_S1x128x128_1_2 x12⟩, ⟨S1x128x128, broadcastInDim S1x128x128 ![1, 2] bcast_S128x128_S1x128x128_1_2 x14⟩]
    concatenates_S1x128x128_S1x128x128_S1x128x128_S1x128x128_S4x128x128_d0

/-- The stacked rows: the first layer's weights, transposed, and the three layers' summed biases. -/
def stackB (x4 x6 : S128x2.Idx → EReal) (x5 x7 x9 x11 x13 x15 : FVec Ideal S128 .f32) : S7x128.Idx → EReal :=
  concatenate S7x128 0
    [⟨S2x128, transpose S2x128 [1, 0] x4 transposes_S128x2_S2x128_1_0⟩, ⟨S2x128, transpose S2x128 [1, 0] x6 transposes_S128x2_S2x128_1_0⟩,
      ⟨S1x128, broadcastInDim S1x128 ![1] bcast_S128_S1x128_1 (addf x5 x7)⟩, ⟨S1x128, broadcastInDim S1x128 ![1] bcast_S128_S1x128_1 (addf x9 x11)⟩,
      ⟨S1x128, broadcastInDim S1x128 ![1] bcast_S128_S1x128_1 (addf x13 x15)⟩]
    concatenates_S2x128_S2x128_S1x128_S1x128_S1x128_S7x128_d0

/-- The fourth operand is the stacked square weights. -/
theorem V2_v5 (d : Dev nD) : (V2 m d (Proc.devRef .tc main_v5) : S4x128x128.Idx → EReal)
    = stackW (m (d, Proc.devRef .tc main_arg8)) (m (d, Proc.devRef .tc main_arg10)) (m (d, Proc.devRef .tc main_arg12)) (m (d, Proc.devRef .tc main_arg14)) := by
  unfold V2 ops
  after_results
  unfold stackW
  refine concat4 ?_ ?_ ?_ ?_
  · show (_ : Valuation τ sig (Elt Ideal)) (Proc.devRef .tc main_v1) = _
    after_results
    rw [V1_arg _ _ _ (by decide)]
  · show (_ : Valuation τ sig (Elt Ideal)) (Proc.devRef .tc main_v2) = _
    after_results
    rw [V1_arg _ _ _ (by decide)]
  · show (_ : Valuation τ sig (Elt Ideal)) (Proc.devRef .tc main_v3) = _
    after_results
    rw [V1_arg _ _ _ (by decide)]
  · show (_ : Valuation τ sig (Elt Ideal)) (Proc.devRef .tc main_v4) = _
    after_results
    rw [V1_arg _ _ _ (by decide)]

/-- The fifth operand is the stacked rows. -/
theorem V2_v14 (d : Dev nD) : (V2 m d (Proc.devRef .tc main_v14) : S7x128.Idx → EReal)
    = stackB (m (d, Proc.devRef .tc main_arg4)) (m (d, Proc.devRef .tc main_arg6)) (m (d, Proc.devRef .tc main_arg5)) (m (d, Proc.devRef .tc main_arg7))
        (m (d, Proc.devRef .tc main_arg9)) (m (d, Proc.devRef .tc main_arg11)) (m (d, Proc.devRef .tc main_arg13)) (m (d, Proc.devRef .tc main_arg15)) := by
  unfold V2 ops
  after_results
  unfold stackB
  refine concat5 ?_ ?_ ?_ ?_ ?_
  · show (_ : Valuation τ sig (Elt Ideal)) (Proc.devRef .tc main_v6) = _
    after_results
    rw [V1_arg _ _ _ (by decide)]
  · show (_ : Valuation τ sig (Elt Ideal)) (Proc.devRef .tc main_v7) = _
    after_results
    rw [V1_arg _ _ _ (by decide)]
  · show (_ : Valuation τ sig (Elt Ideal)) (Proc.devRef .tc main_v9) = _
    after_results
    rw [V1_arg _ _ _ (by decide), V1_arg _ _ _ (by decide)]
  · show (_ : Valuation τ sig (Elt Ideal)) (Proc.devRef .tc main_v11) = _
    after_results
    rw [V1_arg _ _ _ (by decide), V1_arg _ _ _ (by decide)]
  · show (_ : Valuation τ sig (Elt Ideal)) (Proc.devRef .tc main_v13) = _
    after_results
    rw [V1_arg _ _ _ (by decide), V1_arg _ _ _ (by decide)]

/-- The first operand is the four partial tables. -/
theorem V2_v0 (d : Dev nD) : V2 m d (Proc.devRef .tc main_v0) = partsM m d := by
  unfold V2 ops
  after_results
  exact Function.update_self _ _ _

/-- The second operand is the node features. -/
theorem V2_arg0 (d : Dev nD) : V2 m d (Proc.devRef .tc main_arg0) = m (d, Proc.devRef .tc main_arg0) := by
  unfold V2 ops
  after_results
  exact V1_arg _ _ _ (by decide)

/-- The third operand is the assignment scores. -/
theorem V2_arg3 (d : Dev nD) : V2 m d (Proc.devRef .tc main_arg3) = m (d, Proc.devRef .tc main_arg3) := by
  unfold V2 ops
  after_results
  exact V1_arg _ _ _ (by decide)

/-- The program's result is the stored value, with a leading axis of one. -/
theorem V4_v16 (d : Dev nD) :
    (V4 m d (Proc.devRef .tc main_v16) : S1x8x128.Idx → EReal) = shapeCast S1x8x128 (stored (V2 m) d) shapeCasts_S8x128_S1x8x128 := by
  unfold V4 opR
  after_results
  rw [left_out]
  rfl

section Entries
variable (x4 x6 : S128x2.Idx → EReal) (x5 x7 x9 x11 x13 x15 : FVec Ideal S128 .f32) (x8 x10 x12 x14 : S128x128.Idx → EReal)

/-- An entry of one of the stacked matrices. -/
theorem matOf_at (w : S4x128x128.Idx → EReal) (k : Fin 4) (r c : Fin 128) : matOf (F := Ideal) w k (ix3 (0 : Fin 1) r c) = w (ix3 k r c) :=
  congrArg w (funext fun a => match a with | ⟨0, _⟩ => rfl | ⟨1, _⟩ => rfl | ⟨2, _⟩ => rfl)
/-- An entry of one of the stacked rows. -/
theorem rowOf_at (b : S7x128.Idx → EReal) (k : Fin 7) (c : Fin 128) : rowOf (F := Ideal) b k (ix2 (0 : Fin 1) c) = b (ix2 k c) :=
  congrArg b (funext fun a => match a with | ⟨0, _⟩ => rfl | ⟨1, _⟩ => rfl)

/-- The stacked matrix 0. -/
theorem stackW_0 (r c : Fin 128) : matOf (F := Ideal) (stackW x8 x10 x12 x14) 0 (ix3 (0 : Fin 1) r c) = x8 (ix2 r c) := by
  rw [matOf_at]
  unfold stackW
  rw [concatenate_apply_piece (t := S4x128x128) 0 _ _ (ix3 (0 : Fin 4) r c) 0 (by show 0 < 4; decide) S1x128x128 _ rfl rfl 0 rfl (ix3 (0 : Fin 1) r c)
    (fun b hb => match b with | ⟨0, _⟩ => absurd rfl hb | ⟨1, _⟩ => rfl | ⟨2, _⟩ => rfl) rfl]
  exact broadcastInDim_apply _ bcast_S128x128_S1x128x128_1_2 x8 _ (ix2 r c) (fun a => match a with | ⟨0, _⟩ => rfl | ⟨1, _⟩ => rfl)

/-- The stacked matrix 1. -/
theorem stackW_1 (r c : Fin 128) : matOf (F := Ideal) (stackW x8 x10 x12 x14) 1 (ix3 (0 : Fin 1) r c) = x10 (ix2 r c) := by
  rw [matOf_at]
  unfold stackW
  rw [concatenate_apply_piece (t := S4x128x128) 0 _ _ (ix3 (1 : Fin 4) r c) 1 (by show 1 < 4; decide) S1x128x128 _ rfl rfl 1 rfl (ix3 (0 : Fin 1) r c)
    (fun b hb => match b with | ⟨0, _⟩ => absurd rfl hb | ⟨1, _⟩ => rfl | ⟨2, _⟩ => rfl) rfl]
  exact broadcastInDim_apply _ bcast_S128x128_S1x128x128_1_2 x10 _ (ix2 r c) (fun a => match a with | ⟨0, _⟩ => rfl | ⟨1, _⟩ => rfl)

/-- The stacked matrix 2. -/
theorem stackW_2 (r c : Fin 128) : matOf (F := Ideal) (stackW x8 x10 x12 x14) 2 (ix3 (0 : Fin 1) r c) = x12 (ix2 r c) := by
  rw [matOf_at]
  unfold stackW
  rw [concatenate_apply_piece (t := S4x128x128) 0 _ _ (ix3 (2 : Fin 4) r c) 2 (by show 2 < 4; decide) S1x128x128 _ rfl rfl 2 rfl (ix3 (0 : Fin 1) r c)
    (fun b hb => match b with | ⟨0, _⟩ => absurd rfl hb | ⟨1, _⟩ => rfl | ⟨2, _⟩ => rfl) rfl]
  exact broadcastInDim_apply _ bcast_S128x128_S1x128x128_1_2 x12 _ (ix2 r c) (fun a => match a with | ⟨0, _⟩ => rfl | ⟨1, _⟩ => rfl)

/-- The stacked matrix 3. -/
theorem stackW_3 (r c : Fin 128) : matOf (F := Ideal) (stackW x8 x10 x12 x14) 3 (ix3 (0 : Fin 1) r c) = x14 (ix2 r c) := by
  rw [matOf_at]
  unfold stackW
  rw [concatenate_apply_piece (t := S4x128x128) 0 _ _ (ix3 (3 : Fin 4) r c) 3 (by show 3 < 4; decide) S1x128x128 _ rfl rfl 3 rfl (ix3 (0 : Fin 1) r c)
    (fun b hb => match b with | ⟨0, _⟩ => absurd rfl hb | ⟨1, _⟩ => rfl | ⟨2, _⟩ => rfl) rfl]
  exact broadcastInDim_apply _ bcast_S128x128_S1x128x128_1_2 x14 _ (ix2 r c) (fun a => match a with | ⟨0, _⟩ => rfl | ⟨1, _⟩ => rfl)

/-- The stacked row 0. -/
theorem stackB_0 (c : Fin 128) : rowOf (F := Ideal) (stackB x4 x6 x5 x7 x9 x11 x13 x15) 0 (ix2 (0 : Fin 1) c) = x4 (ix2 c (0 : Fin 2)) := by
  rw [rowOf_at]
  unfold stackB
  rw [concatenate_apply_piece (t := S7x128) 0 _ _ (ix2 (0 : Fin 7) c) 0 (by show 0 < 5; decide) S2x128 _ rfl rfl 0 rfl (ix2 (0 : Fin 2) c)
    (fun b hb => match b with | ⟨0, _⟩ => absurd rfl hb | ⟨1, _⟩ => rfl) rfl]
  exact transpose_apply [1, 0] x4 transposes_S128x2_S2x128_1_0 _ (ix2 c (0 : Fin 2)) (fun b => match b with | ⟨0, _⟩ => rfl | ⟨1, _⟩ => rfl)

/-- The stacked row 1. -/
theorem stackB_1 (c : Fin 128) : rowOf (F := Ideal) (stackB x4 x6 x5 x7 x9 x11 x13 x15) 1 (ix2 (0 : Fin 1) c) = x4 (ix2 c (1 : Fin 2)) := by
  rw [rowOf_at]
  unfold stackB
  rw [concatenate_apply_piece (t := S7x128) 0 _ _ (ix2 (1 : Fin 7) c) 0 (by show 0 < 5; decide) S2x128 _ rfl rfl 0 rfl (ix2 (1 : Fin 2) c)
    (fun b hb => match b with | ⟨0, _⟩ => absurd rfl hb | ⟨1, _⟩ => rfl) rfl]
  exact transpose_apply [1, 0] x4 transposes_S128x2_S2x128_1_0 _ (ix2 c (1 : Fin 2)) (fun b => match b with | ⟨0, _⟩ => rfl | ⟨1, _⟩ => rfl)

/-- The stacked row 2. -/
theorem stackB_2 (c : Fin 128) : rowOf (F := Ideal) (stackB x4 x6 x5 x7 x9 x11 x13 x15) 2 (ix2 (0 : Fin 1) c) = x6 (ix2 c (0 : Fin 2)) := by
  rw [rowOf_at]
  unfold stackB
  rw [concatenate_apply_piece (t := S7x128) 0 _ _ (ix2 (2 : Fin 7) c) 1 (by show 1 < 5; decide) S2x128 _ rfl rfl 2 rfl (ix2 (0 : Fin 2) c)
    (fun b hb => match b with | ⟨0, _⟩ => absurd rfl hb | ⟨1, _⟩ => rfl) rfl]
  exact transpose_apply [1, 0] x6 transposes_S128x2_S2x128_1_0 _ (ix2 c (0 : Fin 2)) (fun b => match b with | ⟨0, _⟩ => rfl | ⟨1, _⟩ => rfl)

/-- The stacked row 3. -/
theorem stackB_3 (c : Fin 128) : rowOf (F := Ideal) (stackB x4 x6 x5 x7 x9 x11 x13 x15) 3 (ix2 (0 : Fin 1) c) = x6 (ix2 c (1 : Fin 2)) := by
  rw [rowOf_at]
  unfold stackB
  rw [concatenate_apply_piece (t := S7x128) 0 _ _ (ix2 (3 : Fin 7) c) 1 (by show 1 < 5; decide) S2x128 _ rfl rfl 2 rfl (ix2 (1 : Fin 2) c)
    (fun b hb => match b with | ⟨0, _⟩ => absurd rfl hb | ⟨1, _⟩ => rfl) rfl]
  exact transpose_apply [1, 0] x6 transposes_S128x2_S2x128_1_0 _ (ix2 c (1 : Fin 2)) (fun b => match b with | ⟨0, _⟩ => rfl | ⟨1, _⟩ => rfl)

/-- The stacked row 4. -/
theorem stackB_4 (c : Fin 128) : rowOf (F := Ideal) (stackB x4 x6 x5 x7 x9 x11 x13 x15) 4 (ix2 (0 : Fin 1) c) = x5 (ix1 c) + x7 (ix1 c) := by
  rw [rowOf_at]
  unfold stackB
  rw [concatenate_apply_piece (t := S7x128) 0 _ _ (ix2 (4 : Fin 7) c) 2 (by show 2 < 5; decide) S1x128 _ rfl rfl 4 rfl (ix2 (0 : Fin 1) c)
    (fun b hb => match b with | ⟨0, _⟩ => absurd rfl hb | ⟨1, _⟩ => rfl) rfl]
  exact broadcastInDim_apply _ bcast_S128_S1x128_1 (addf x5 x7) _ (ix1 c) (fun a => match a with | ⟨0, _⟩ => rfl)

/-- The stacked row 5. -/
theorem stackB_5 (c : Fin 128) : rowOf (F := Ideal) (stackB x4 x6 x5 x7 x9 x11 x13 x15) 5 (ix2 (0 : Fin 1) c) = x9 (ix1 c) + x11 (ix1 c) := by
  rw [rowOf_at]
  unfold stackB
  rw [concatenate_apply_piece (t := S7x128) 0 _ _ (ix2 (5 : Fin 7) c) 3 (by show 3 < 5; decide) S1x128 _ rfl rfl 5 rfl (ix2 (0 : Fin 1) c)
    (fun b hb => match b with | ⟨0, _⟩ => absurd rfl hb | ⟨1, _⟩ => rfl) rfl]
  exact broadcastInDim_apply _ bcast_S128_S1x128_1 (addf x9 x11) _ (ix1 c) (fun a => match a with | ⟨0, _⟩ => rfl)

/-- The stacked row 6. -/
theorem stackB_6 (c : Fin 128) : rowOf (F := Ideal) (stackB x4 x6 x5 x7 x9 x11 x13 x15) 6 (ix2 (0 : Fin 1) c) = x13 (ix1 c) + x15 (ix1 c) := by
  rw [rowOf_at]
  unfold stackB
  rw [concatenate_apply_piece (t := S7x128) 0 _ _ (ix2 (6 : Fin 7) c) 4 (by show 4 < 5; decide) S1x128 _ rfl rfl 6 rfl (ix2 (0 : Fin 1) c)
    (fun b hb => match b with | ⟨0, _⟩ => absurd rfl hb | ⟨1, _⟩ => rfl) rfl]
  exact broadcastInDim_apply _ bcast_S128_S1x128_1 (addf x13 x15) _ (ix1 c) (fun a => match a with | ⟨0, _⟩ => rfl)

end Entries

end Cert.Proof.Run

end
-- ==== Proof.Value.lean ====
/-
  The kernel's result, element by element: three layers and the pooling, the same as the reference's.
-/
module

public import proofs.«01_k».proof.Proof.Operands

@[expose] public section

set_option maxRecDepth 16384

noncomputable section

namespace Cert.Proof.Run

open Cert.KernelIdeal Cert.KernelIdeal.Gen
open Idealize.ShloMosaic

variable {ei : S2x544.Idx → BitVec 32} (s : S1x68x8.Idx → EReal) (x0 : S68x2.Idx → EReal)
  (x4 x6 : S128x2.Idx → EReal) (x5 x7 x9 x11 x13 x15 : FVec Ideal S128 .f32) (x8 x10 x12 x14 : S128x128.Idx → EReal)

/-- The table of edge counts that the layers read. -/
theorem counts_at (h : EdgesOK ei) :
    (fun n j : Fin 68 => k1_pay2 (F := Ideal) (parts (F := Ideal) ei) (ix2 n j)) = fun n j => (cnt (dstF ei) (srcF ei) n j : EReal) := by
  funext n j
  rw [table_at, parts_sum ei h]

/-- The first layer of the kernel is the reference's, where the features and the weights of its edges are finite. -/
theorem tcH1_eq (h : EdgesOK ei) (f0 : ∀ i, IsFin (x0 i)) (f4 : ∀ i, IsFin (x4 i)) :
    (fun (n : Fin 68) (k : Fin 128) => tcH1 (F := Ideal) (parts (F := Ideal) ei) x0 (stackB x4 x6 x5 x7 x9 x11 x13 x15) (ix2 n k))
      = H1 x0 x4 x6 x5 x7 ei := by
  unfold H1
  rw [← mixed_eq (dstF ei) (srcF ei) (mat x0) (mat x4) (mat x6) (vec x5) (vec x7)
    fun t c k => sum_mul_finite t _ (fun e => f0 _) _ (f4 _)]
  funext n c
  unfold tcH1
  rw [first_at, counts_at h]
  simp only [stackB_0, stackB_1, stackB_2, stackB_3, stackB_4]
  refine congrFun (congrFun (congrArg₂ (fun W Wo => mixed _ _ W Wo _) ?_ ?_) n) c
  · funext c k
    match k with
    | ⟨0, _⟩ => rfl
    | ⟨1, _⟩ => rfl
  · funext c k
    match k with
    | ⟨0, _⟩ => rfl
    | ⟨1, _⟩ => rfl

/-- The third layer of the kernel is the reference's. -/
theorem tcH3_eq (h : EdgesOK ei) (f0 : ∀ i, IsFin (x0 i)) (f4 : ∀ i, IsFin (x4 i)) :
    (fun (n : Fin 68) (k : Fin 128) => tcH3 (F := Ideal) (parts (F := Ideal) ei) x0 (stackW x8 x10 x12 x14) (stackB x4 x6 x5 x7 x9 x11 x13 x15) (ix2 n k))
      = H3 x0 x4 x6 x5 x7 x9 x11 x13 x15 x8 x10 x12 x14 ei := by
  unfold H3
  rw [← mixed_eq (dstF ei) (srcF ei) (H2 x0 x4 x6 x5 x7 x9 x11 x8 x10 ei) (mat x12) (mat x14) (vec x13) (vec x15)
    fun t c k => sum_mul_nonneg t _ (fun e => layer_nonneg _ _ _ _ _ _ _ _ _) _]
  unfold H2
  rw [← mixed_eq (dstF ei) (srcF ei) (H1 x0 x4 x6 x5 x7 ei) (mat x8) (mat x10) (vec x9) (vec x11)
    fun t c k => sum_mul_nonneg t _ (fun e => layer_nonneg _ _ _ _ _ _ _ _ _) _]
  funext n c
  unfold tcH3
  rw [rest_at, counts_at h, tcH1_eq x0 x4 x6 x5 x7 x9 x11 x13 x15 h f0 f4]
  simp only [stackW_0, stackW_1, stackW_2, stackW_3, stackB_5, stackB_6]
  rfl

/-- What the kernel stores, at one element. -/
theorem tcOut_at (h : EdgesOK ei) (f0 : ∀ i, IsFin (x0 i)) (f4 : ∀ i, IsFin (x4 i)) (g : Fin 8) (c : Fin 128) :
    tcOut (F := Ideal) (parts (F := Ideal) ei) x0 s (stackW x8 x10 x12 x14) (stackB x4 x6 x5 x7 x9 x11 x13 x15) (ix2 g c)
      = pooled s (H3 x0 x4 x6 x5 x7 x9 x11 x13 x15 x8 x10 x12 x14 ei) g c := by
  unfold tcOut
  rw [pool_at, tcH3_eq x0 x4 x6 x5 x7 x9 x11 x13 x15 x8 x10 x12 x14 h f0 f4]

end Cert.Proof.Run

end
-- ==== Proof.Algebraic.lean ====
/-
  The value claim: the kernel and the reference end with equal results, element by element, wherever the edge list names
  nodes and the features and the first layer's edge weights are finite.
-/
module

public import proofs.«01_k».proof.Proof.Value
public import proofs.«01_k».proof.Proof.FramesFinite

@[expose] public section

set_option maxRecDepth 16384

noncomputable section

namespace Cert.Proof.Run

open Cert.KernelIdeal Cert.KernelIdeal.Gen

open Idealize.ShloMosaic Idealize.ShloMosaic.TcCoe
open Idealize.SL.Sem

variable (m : (ℓ : Loc nD τ sig) → Buf (Elt Ideal) ℓ)

/-- The word of positive infinity. -/
theorem inf_word : Ideal.ofBits .f32 0x7F800000#32 = ⊤ := by simp [Ideal.ofBits, Ideal.ieee]

/-- A value whose magnitude is below infinity is finite. -/
theorem fin_of_abs (x : Ideal .f32) (e : FloatOps.cmpf (F := Ideal) .olt (FloatOps.hostAbsf x) (FloatOps.ofBits .f32 0x7F800000#32) = 1#1) : IsFin x := by
  have e' : Ideal.cmp .olt (max (x : EReal) (-x)) (Ideal.ofBits .f32 0x7F800000#32) = 1#1 := e
  rw [inf_word] at e'
  simp only [Ideal.cmp, ofBool_eq_one, decide_eq_true_eq, max_lt_iff] at e'
  refine ⟨e'.1.ne, fun hb => ?_⟩
  have h2 := e'.2
  rw [hb, EReal.neg_bot] at h2
  exact lt_irrefl _ h2

/-- The precondition as two facts of the features and the first layer's edge weights. -/
theorem fin_of_pre (h : ∀ c : Dev nD, (Cert.Pre_inputs_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) = fun _ => 1#1) (d : Dev nD) :
    (∀ i, IsFin ((m ((d.tc : Thread nD τ).loc main_arg0) : S68x2.Idx → EReal) i)) ∧ (∀ i, IsFin ((m ((d.tc : Thread nD τ).loc main_arg4) : S128x2.Idx → EReal) i)) := by
  have e := congrFun (h d) i0
  simp only [Cert.Pre_inputs_finite.fn, andi] at e
  have e0 := (andi_one _ _ (andi_one _ _ e).1).2
  have e4 := (andi_one _ _ e).2
  refine ⟨fun i => ?_, fun i => ?_⟩
  · have e' := Host.reduce_andi_all _ _ _ _ i0 e0 i
    simp only [cmpf, Host.absf, broadcastInDim, constant] at e'
    exact fin_of_abs _ e'
  · have e' := Host.reduce_andi_all _ _ _ _ i0 e4 i
    simp only [cmpf, Host.absf, broadcastInDim, constant] at e'
    exact fin_of_abs _ e'

/-- The kernel's result at one element. -/
theorem result_at (hok : PreOK m) (d : Dev nD) (f0 : ∀ i, IsFin ((m ((d.tc : Thread nD τ).loc main_arg0) : S68x2.Idx → EReal) i))
    (f4 : ∀ i, IsFin ((m ((d.tc : Thread nD τ).loc main_arg4) : S128x2.Idx → EReal) i)) (i : S1x8x128.Idx) :
    (V4 m d (Proc.devRef .tc main_v16) : S1x8x128.Idx → EReal) i = Cert.ReferenceIdeal.Read.val_main_v90 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) i := by
  rw [V4_v16, v90_at _ _ _ _ _ _ _ _ _ _ _ _ _ _ (hok d)]
  show shapeCast S1x8x128 (stored (V2 m) d) shapeCasts_S8x128_S1x8x128 i = _
  rw [shapeCast_addUnit_apply ![8, 128] (stored (V2 m) d) shapeCasts_S8x128_S1x8x128 i]
  unfold stored
  rw [V2_v0, V2_arg0, V2_arg3, V2_v5, V2_v14]
  refine Eq.trans (congrArg _ (funext fun a => ?_)) (tcOut_at _ _ _ _ _ _ _ _ _ _ _ _ _ _ (hok d) f0 f4 (i 1) (i 2))
  match a with
  | ⟨0, _⟩ => rfl
  | ⟨1, _⟩ => rfl

/-- The value claim. -/
theorem algebraic_all : Cert.algebraic_KernelIdeal_ReferenceIdeal_pre_inputs_finite := fun m ρ m' ρ' hpre hargs =>
  ⟨fun c => V4 m c (Proc.devRef .tc main_v16),
    (θ_run Cert.KernelIdeal.defs _ _).mono (fun r h c => ⟨h.1 c _ (mem_uc main_v16 rfl), args_keep m r h.1 c⟩)
      (run_main (F := Ideal) m ρ (ok_of_pre_finite m hpre)),
    (θ_run Cert.ReferenceIdeal.defs _ _).mono (fun r h c => ⟨(h c).1.trans (by
        obtain ⟨f0, f4⟩ := fin_of_pre m hpre c
        obtain ⟨a0, a1, a2, a3, a4, a5, a6, a7, a8, a9, a10, a11, a12, a13, a14, a15⟩ := hargs c
        rw [Cert.ReferenceIdeal.Read.val_main_v90_eq, a0, a1, a3, a4, a5, a6, a7, a8, a9, a10, a11, a12, a13, a14, a15]
        exact funext fun i => (result_at m (ok_of_pre_finite m hpre) c f0 f4 i).symm), (h c).2⟩)
      (Cert.ReferenceIdeal.Value.run (F := Ideal) m' ρ')⟩

end Cert.Proof.Run

end
-- ==== Proof.lean ====
/-
  The certificate's claims, assembled: the frames of the kernel and of the reference, the ideal pass's ledger, and the
  equality of the kernel's and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_ok
public import proofs.«01_k».proof.Proof.Gen.Pre_inputs_finite
public import proofs.«01_k».proof.Proof.Frames
public import proofs.«01_k».proof.Proof.FramesFinite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the frames, the ideal pass's ledger, which is empty, and the equality of the results. -/
theorem claim : Cert.Claim := ⟨Cert.Kernel.Gen.facts, Cert.KernelIdeal.Gen.facts, Cert.ReferenceIdeal.Gen.facts, Cert.Pre_inputs_ok.Gen.facts,
  Cert.Pre_inputs_finite.Gen.facts, Run.frame_kernel, Run.frame_ideal, Run.frame_ideal_finite, Run.frame_ref, Run.frame_ref_finite, trivial,
  Run.algebraic_all⟩

end Cert.Proof

end
